-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![32768, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S2x256x1024 : Shape := ⟨3, ![2, 256, 1024]⟩
abbrev S1x1024 : Shape := ⟨2, ![1, 1024]⟩
abbrev S7x1024 : Shape := ⟨2, ![7, 1024]⟩
abbrev S8 : Shape := ⟨1, ![8]⟩
abbrev S2 : Shape := ⟨1, ![2]⟩
abbrev S7 : Shape := ⟨1, ![7]⟩
abbrev S_ : Shape := ⟨0, ![]⟩
abbrev S1 : Shape := ⟨1, ![1]⟩
abbrev S512x1024 : Shape := ⟨2, ![512, 1024]⟩
abbrev S256x1024 : Shape := ⟨2, ![256, 1024]⟩
abbrev S128x1024 : Shape := ⟨2, ![128, 1024]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S4x1024 : Shape := ⟨2, ![4, 1024]⟩
abbrev S2x1024 : Shape := ⟨2, ![2, 1024]⟩
abbrev S255x1024 : Shape := ⟨2, ![255, 1024]⟩
abbrev S254x1024 : Shape := ⟨2, ![254, 1024]⟩
abbrev S252x1024 : Shape := ⟨2, ![252, 1024]⟩
abbrev S248x1024 : Shape := ⟨2, ![248, 1024]⟩
abbrev S240x1024 : Shape := ⟨2, ![240, 1024]⟩
abbrev S224x1024 : Shape := ⟨2, ![224, 1024]⟩
abbrev S192x1024 : Shape := ⟨2, ![192, 1024]⟩
abbrev S1x256x1024 : Shape := ⟨3, ![1, 256, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x1024, .f32⟩
  | .local _ .vmem, ⟨1, _⟩ => ⟨S4096x1024, .bf16⟩
  | .local _ .vmem, ⟨2, _⟩ => ⟨S2x256x1024, .bf16⟩
  | .local _ .vmem, ⟨3, _⟩ => ⟨S1x1024, .f32⟩
  | .local _ .vmem, ⟨4, _⟩ => ⟨S7x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_250 : BitVec 32 := 1#32
  let v873 : BitVec 32 := Scalar.addi v2 c1_i32_250
  let c8_i32_251 : BitVec 32 := 8#32
  let c0_i32_252 : BitVec 32 := 0#32
  let v874 : BitVec 1 := Scalar.cmpi .eq c8_i32_251 c0_i32_252
  let c1_i32_253 : BitVec 32 := 1#32
  let v875 : BitVec 32 := Scalar.select v874 c1_i32_253 c8_i32_251
  let v876 : BitVec 32 := Scalar.remsi v873 v875
  let c0_i32_255 : BitVec 32 := 0#32
  let v878 : BitVec 1 := Scalar.cmpi .slt v876 c0_i32_255
  let c0_i32_256 : BitVec 32 := 0#32
  let v879 : BitVec 1 := Scalar.cmpi .slt v875 c0_i32_256
  let v880 : BitVec 1 := Scalar.xori v878 v879
  let c0_i32_254 : BitVec 32 := 0#32
  let v877 : BitVec 1 := Scalar.cmpi .ne v876 c0_i32_254
  let v881 : BitVec 1 := Scalar.andi v880 v877
  let v882 : BitVec 32 := Scalar.addi v876 v875
  let v883 : BitVec 32 := Scalar.select v881 v882 v876
  let c1_i32_259 : BitVec 32 := 1#32
  let v884 : BitVec 32 := Scalar.muli v883 c1_i32_259
  let v885 : BitVec 32 := Scalar.addi c0_i32_260 v884
  v885.toNat
def k0_dev9 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_263 : BitVec 32 := 2#32
  let v891 : BitVec 32 := Scalar.addi v2 c2_i32_263
  let c8_i32_264 : BitVec 32 := 8#32
  let c0_i32_265 : BitVec 32 := 0#32
  let v892 : BitVec 1 := Scalar.cmpi .eq c8_i32_264 c0_i32_265
  let c1_i32_266 : BitVec 32 := 1#32
  let v893 : BitVec 32 := Scalar.select v892 c1_i32_266 c8_i32_264
  let v894 : BitVec 32 := Scalar.remsi v891 v893
  let c0_i32_268 : BitVec 32 := 0#32
  let v896 : BitVec 1 := Scalar.cmpi .slt v894 c0_i32_268
  let c0_i32_269 : BitVec 32 := 0#32
  let v897 : BitVec 1 := Scalar.cmpi .slt v893 c0_i32_269
  let v898 : BitVec 1 := Scalar.xori v896 v897
  let c0_i32_267 : BitVec 32 := 0#32
  let v895 : BitVec 1 := Scalar.cmpi .ne v894 c0_i32_267
  let v899 : BitVec 1 := Scalar.andi v898 v895
  let v900 : BitVec 32 := Scalar.addi v894 v893
  let v901 : BitVec 32 := Scalar.select v899 v900 v894
  let c1_i32_272 : BitVec 32 := 1#32
  let v902 : BitVec 32 := Scalar.muli v901 c1_i32_272
  let v903 : BitVec 32 := Scalar.addi c0_i32_273 v902
  v903.toNat
def k0_dev10 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_276 : BitVec 32 := 3#32
  let v909 : BitVec 32 := Scalar.addi v2 c3_i32_276
  let c8_i32_277 : BitVec 32 := 8#32
  let c0_i32_278 : BitVec 32 := 0#32
  let v910 : BitVec 1 := Scalar.cmpi .eq c8_i32_277 c0_i32_278
  let c1_i32_279 : BitVec 32 := 1#32
  let v911 : BitVec 32 := Scalar.select v910 c1_i32_279 c8_i32_277
  let v912 : BitVec 32 := Scalar.remsi v909 v911
  let c0_i32_281 : BitVec 32 := 0#32
  let v914 : BitVec 1 := Scalar.cmpi .slt v912 c0_i32_281
  let c0_i32_282 : BitVec 32 := 0#32
  let v915 : BitVec 1 := Scalar.cmpi .slt v911 c0_i32_282
  let v916 : BitVec 1 := Scalar.xori v914 v915
  let c0_i32_280 : BitVec 32 := 0#32
  let v913 : BitVec 1 := Scalar.cmpi .ne v912 c0_i32_280
  let v917 : BitVec 1 := Scalar.andi v916 v913
  let v918 : BitVec 32 := Scalar.addi v912 v911
  let v919 : BitVec 32 := Scalar.select v917 v918 v912
  let c1_i32_285 : BitVec 32 := 1#32
  let v920 : BitVec 32 := Scalar.muli v919 c1_i32_285
  let v921 : BitVec 32 := Scalar.addi c0_i32_286 v920
  v921.toNat
def k0_dev11 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_289 : BitVec 32 := 4#32
  let v927 : BitVec 32 := Scalar.addi v2 c4_i32_289
  let c8_i32_290 : BitVec 32 := 8#32
  let c0_i32_291 : BitVec 32 := 0#32
  let v928 : BitVec 1 := Scalar.cmpi .eq c8_i32_290 c0_i32_291
  let c1_i32_292 : BitVec 32 := 1#32
  let v929 : BitVec 32 := Scalar.select v928 c1_i32_292 c8_i32_290
  let v930 : BitVec 32 := Scalar.remsi v927 v929
  let c0_i32_294 : BitVec 32 := 0#32
  let v932 : BitVec 1 := Scalar.cmpi .slt v930 c0_i32_294
  let c0_i32_295 : BitVec 32 := 0#32
  let v933 : BitVec 1 := Scalar.cmpi .slt v929 c0_i32_295
  let v934 : BitVec 1 := Scalar.xori v932 v933
  let c0_i32_293 : BitVec 32 := 0#32
  let v931 : BitVec 1 := Scalar.cmpi .ne v930 c0_i32_293
  let v935 : BitVec 1 := Scalar.andi v934 v931
  let v936 : BitVec 32 := Scalar.addi v930 v929
  let v937 : BitVec 32 := Scalar.select v935 v936 v930
  let c1_i32_298 : BitVec 32 := 1#32
  let v938 : BitVec 32 := Scalar.muli v937 c1_i32_298
  let v939 : BitVec 32 := Scalar.addi c0_i32_299 v938
  v939.toNat
def k0_dev12 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_302 : BitVec 32 := 5#32
  let v945 : BitVec 32 := Scalar.addi v2 c5_i32_302
  let c8_i32_303 : BitVec 32 := 8#32
  let c0_i32_304 : BitVec 32 := 0#32
  let v946 : BitVec 1 := Scalar.cmpi .eq c8_i32_303 c0_i32_304
  let c1_i32_305 : BitVec 32 := 1#32
  let v947 : BitVec 32 := Scalar.select v946 c1_i32_305 c8_i32_303
  let v948 : BitVec 32 := Scalar.remsi v945 v947
  let c0_i32_307 : BitVec 32 := 0#32
  let v950 : BitVec 1 := Scalar.cmpi .slt v948 c0_i32_307
  let c0_i32_308 : BitVec 32 := 0#32
  let v951 : BitVec 1 := Scalar.cmpi .slt v947 c0_i32_308
  let v952 : BitVec 1 := Scalar.xori v950 v951
  let c0_i32_306 : BitVec 32 := 0#32
  let v949 : BitVec 1 := Scalar.cmpi .ne v948 c0_i32_306
  let v953 : BitVec 1 := Scalar.andi v952 v949
  let v954 : BitVec 32 := Scalar.addi v948 v947
  let v955 : BitVec 32 := Scalar.select v953 v954 v948
  let c1_i32_311 : BitVec 32 := 1#32
  let v956 : BitVec 32 := Scalar.muli v955 c1_i32_311
  let v957 : BitVec 32 := Scalar.addi c0_i32_312 v956
  v957.toNat
def k0_dev13 (d0 : Dev nD) : Nat :=
  let c0_i32_325 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_315 : BitVec 32 := 6#32
  let v963 : BitVec 32 := Scalar.addi v2 c6_i32_315
  let c8_i32_316 : BitVec 32 := 8#32
  let c0_i32_317 : BitVec 32 := 0#32
  let v964 : BitVec 1 := Scalar.cmpi .eq c8_i32_316 c0_i32_317
  let c1_i32_318 : BitVec 32 := 1#32
  let v965 : BitVec 32 := Scalar.select v964 c1_i32_318 c8_i32_316
  let v966 : BitVec 32 := Scalar.remsi v963 v965
  let c0_i32_320 : BitVec 32 := 0#32
  let v968 : BitVec 1 := Scalar.cmpi .slt v966 c0_i32_320
  let c0_i32_321 : BitVec 32 := 0#32
  let v969 : BitVec 1 := Scalar.cmpi .slt v965 c0_i32_321
  let v970 : BitVec 1 := Scalar.xori v968 v969
  let c0_i32_319 : BitVec 32 := 0#32
  let v967 : BitVec 1 := Scalar.cmpi .ne v966 c0_i32_319
  let v971 : BitVec 1 := Scalar.andi v970 v967
  let v972 : BitVec 32 := Scalar.addi v966 v965
  let v973 : BitVec 32 := Scalar.select v971 v972 v966
  let c1_i32_324 : BitVec 32 := 1#32
  let v974 : BitVec 32 := Scalar.muli v973 c1_i32_324
  let v975 : BitVec 32 := Scalar.addi c0_i32_325 v974
  v975.toNat
def k0_dev14 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_328 : BitVec 32 := 7#32
  let v981 : BitVec 32 := Scalar.addi v2 c7_i32_328
  let c8_i32_329 : BitVec 32 := 8#32
  let c0_i32_330 : BitVec 32 := 0#32
  let v982 : BitVec 1 := Scalar.cmpi .eq c8_i32_329 c0_i32_330
  let c1_i32_331 : BitVec 32 := 1#32
  let v983 : BitVec 32 := Scalar.select v982 c1_i32_331 c8_i32_329
  let v984 : BitVec 32 := Scalar.remsi v981 v983
  let c0_i32_333 : BitVec 32 := 0#32
  let v986 : BitVec 1 := Scalar.cmpi .slt v984 c0_i32_333
  let c0_i32_334 : BitVec 32 := 0#32
  let v987 : BitVec 1 := Scalar.cmpi .slt v983 c0_i32_334
  let v988 : BitVec 1 := Scalar.xori v986 v987
  let c0_i32_332 : BitVec 32 := 0#32
  let v985 : BitVec 1 := Scalar.cmpi .ne v984 c0_i32_332
  let v989 : BitVec 1 := Scalar.andi v988 v985
  let v990 : BitVec 32 := Scalar.addi v984 v983
  let v991 : BitVec 32 := Scalar.select v989 v990 v984
  let c1_i32_337 : BitVec 32 := 1#32
  let v992 : BitVec 32 := Scalar.muli v991 c1_i32_337
  let v993 : BitVec 32 := Scalar.addi c0_i32_338 v992
  v993.toNat
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 22
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S32768x1024, .f32⟩
  | .hbm, ⟨5, _⟩ => ⟨S_, .i32⟩
  | .hbm, ⟨6, _⟩ => ⟨S32768x1024, .f32⟩
  | .hbm, ⟨7, _⟩ => ⟨S_, .i32⟩
  | .hbm, ⟨8, _⟩ => ⟨S1024, .f32⟩
  | .hbm, ⟨9, _⟩ => ⟨S32768x1024, .f32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S_, .i32⟩
  | .hbm, ⟨18, _⟩ => ⟨S32768x1024, .f32⟩
  | .hbm, ⟨19, _⟩ => ⟨S_, .i32⟩
  | .hbm, ⟨20, _⟩ => ⟨S_, .i32⟩
  | .hbm, ⟨21, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v4 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v4 : Ref sig .tc := ⟨.hbm, 14, rfl⟩
abbrev main_while0b_v5 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v6 : Ref sig .tc := ⟨.hbm, 18, rfl⟩
abbrev main_while0b_c_4 : Ref sig .tc := ⟨.hbm, 19, rfl⟩
abbrev main_while0b_v7 : Ref sig .tc := ⟨.hbm, 20, rfl⟩
abbrev main_v3 : Ref sig .tc := ⟨.hbm, 21, rfl⟩

abbrev nD : Nat := 1
abbrev τ : Topo := Topo.v7x

variable {F : FTy → Type} [FloatOps F]

abbrev main_while0_count : Scf.Loop 32 := ⟨0#32, 32768#32, 1#32⟩
-- ==== Proof.Protocol.lean ====
/-
The protocol of the kernel's remote part, under the rounds library.

Eight devices. Every device has one barrier cell, seven send cells and seven receive cells. Direction `j` (of seven)
of device `c` goes to the device `j + 1` places further round the ring, `up c j`; the direction that comes back is
`rev j`, so `up (up c j) (rev j) = c`. One round per cell:

* the barrier cell of `c` has seven duties of one unit, duty `i` paid by `up c i`, which thereby hands `c` slot `i` of
  its landing buffer (the slot that `c`'s copy in direction `i` fills);
* the send cell `j` of `c` has one duty, a row's credit, which gives back the share of `c`'s row of totals that the
  copy in direction `j` reads;
* the receive cell `j` of `c` has one duty, a row's credit, which gives slot `j` of `c`'s landing buffer, holding the
  row of totals of the device the copy came from, `up c (rev j)`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Cumprod

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the ring's, and the local transfers' counters -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb

instance ER_lands : (ER : Emb UB 𝕄).LandsIn (upEmb : UEmb _ 𝕄) := by unfold ER; infer_instance

/-! ## The ring -/

set_option backward.proofsInPublic true in
/-- The device `j + 1` places further round the ring. -/
def up (c : Dev nD) (j : Fin 7) : Dev nD := ⟨(c.val + (j.val + 1)) % 8, Nat.mod_lt _ (by decide)⟩

set_option backward.proofsInPublic true in
/-- The direction that comes back. -/
def rev (j : Fin 7) : Fin 7 := ⟨6 - j.val, by omega⟩

theorem rev_rev (j : Fin 7) : rev (rev j) = j := by revert j; decide
theorem up_rev (c : Dev nD) (j : Fin 7) : up (up c j) (rev j) = c := by revert c j; decide
theorem up_rev' (c : Dev nD) (j : Fin 7) : up (up c (rev j)) j = c := by revert c j; decide

def upE (j : Fin 7) : Dev nD ≃ Dev nD := ⟨(up · j), (up · (rev j)), (up_rev · j), (up_rev' · j)⟩
def revE : Fin 7 ≃ Fin 7 := ⟨rev, rev, rev_rev, rev_rev⟩

/-- The kernel's arithmetic on its own position: the peers it signals, then the peers it copies to. -/
theorem dev1_eq (c : Dev nD) : (⟨k0_dev1 c, k0_dev1_lt c⟩ : Dev nD) = up c 0 := by revert c; decide +kernel
theorem dev2_eq (c : Dev nD) : (⟨k0_dev2 c, k0_dev2_lt c⟩ : Dev nD) = up c 1 := by revert c; decide +kernel
theorem dev3_eq (c : Dev nD) : (⟨k0_dev3 c, k0_dev3_lt c⟩ : Dev nD) = up c 2 := by revert c; decide +kernel
theorem dev4_eq (c : Dev nD) : (⟨k0_dev4 c, k0_dev4_lt c⟩ : Dev nD) = up c 3 := by revert c; decide +kernel
theorem dev5_eq (c : Dev nD) : (⟨k0_dev5 c, k0_dev5_lt c⟩ : Dev nD) = up c 4 := by revert c; decide +kernel
theorem dev6_eq (c : Dev nD) : (⟨k0_dev6 c, k0_dev6_lt c⟩ : Dev nD) = up c 5 := by revert c; decide +kernel
theorem dev7_eq (c : Dev nD) : (⟨k0_dev7 c, k0_dev7_lt c⟩ : Dev nD) = up c 6 := by revert c; decide +kernel
theorem dev8_eq (c : Dev nD) : (⟨k0_dev8 c, k0_dev8_lt c⟩ : Dev nD) = up c 0 := by revert c; decide +kernel
theorem dev9_eq (c : Dev nD) : (⟨k0_dev9 c, k0_dev9_lt c⟩ : Dev nD) = up c 1 := by revert c; decide +kernel
theorem dev10_eq (c : Dev nD) : (⟨k0_dev10 c, k0_dev10_lt c⟩ : Dev nD) = up c 2 := by revert c; decide +kernel
theorem dev11_eq (c : Dev nD) : (⟨k0_dev11 c, k0_dev11_lt c⟩ : Dev nD) = up c 3 := by revert c; decide +kernel
theorem dev12_eq (c : Dev nD) : (⟨k0_dev12 c, k0_dev12_lt c⟩ : Dev nD) = up c 4 := by revert c; decide +kernel
theorem dev13_eq (c : Dev nD) : (⟨k0_dev13 c, k0_dev13_lt c⟩ : Dev nD) = up c 5 := by revert c; decide +kernel
theorem dev14_eq (c : Dev nD) : (⟨k0_dev14 c, k0_dev14_lt c⟩ : Dev nD) = up c 6 := by revert c; decide +kernel

/-! ## The memrefs and cells -/

abbrev xM : Memref sig .tc .vmem S4096x1024 .f32 := Memref.whole cc0_scratch0
abbrev lM : Memref sig .tc .vmem S4096x1024 .bf16 := Memref.whole cc0_scratch1
abbrev sM : Memref sig .tc .vmem S2x256x1024 .bf16 := Memref.whole cc0_scratch2
abbrev tM : Memref sig .tc .vmem S1x1024 .f32 := Memref.whole cc0_scratch3
abbrev cM : Memref sig .tc .vmem S7x1024 .f32 := Memref.whole cc0_scratch4

theorem slot_inb (j : Fin 7) : ∀ a, (![(j.val : ℕ), 0] : Fin S7x1024.rank → ℕ) a + S1x1024.size a ≤ S7x1024.size a := by
  revert j; decide

/-- Slot `j` of the landing buffer: its row `j`. -/
abbrev slotM (j : Fin 7) : Memref sig .tc .vmem S1x1024 .f32 :=
  (cM : Memref sig .tc .vmem S7x1024 .f32).slice (Rect.unit (s := S7x1024) ![(j.val : ℕ), 0] S1x1024.size (slot_inb j)) (fun _ => rfl)

/-- The runtime's barrier semaphore, the send and the receive semaphores. -/
abbrev barS : Sem sig := (SemArray.scalar (sig.barrier 0 rfl) : Sems sig S_).sem
set_option backward.proofsInPublic true in
def sendS (j : Fin 7) : DmaSem sig := ⟨10 + j.val, by show 10 + j.val < 24; omega⟩
set_option backward.proofsInPublic true in
def recvS (j : Fin 7) : DmaSem sig := ⟨17 + j.val, by show 17 + j.val < 24; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- A row's credit. -/
abbrev N : ℕ := (tM : Memref sig .tc .vmem S1x1024 .f32).view.dmaCredit
theorem N_pos : 0 < N := View.dmaCredit_pos _ (by decide)

/-! ## Contents -/

variable (m : (ℓ : Loc nD τ sig) → Buf (Elt F) ℓ)

theorem sub_inb (s : Fin 16) : ∀ a, (![256 * (s.val : ℕ), 0] : Fin S4096x1024.rank → ℕ) a + S256x1024.size a ≤ S4096x1024.size a := by
  revert s; decide

/-- The rectangle of the `s`-th block of 256 rows. -/
abbrev subR (s : Fin 16) : Rect S4096x1024 := Rect.unit (s := S4096x1024) ![256 * (s.val : ℕ), 0] S256x1024.size (sub_inb s)

/-- The `s`-th block of 256 rows of what device `c` is given. -/
def xsub (c : Dev nD) (s : Fin 16) : FVec F S256x1024 .f32 :=
  ((Memref.whole main_arg0 : Memref sig .tc .hbm S4096x1024 .f32).slice (subR s) (fun _ => rfl)).view.read (Elt F)
    (m ((c : Thread nD τ).loc main_arg0))

/-- The product of the first `n + 1` blocks' products, folded from the left. -/
def carry (c : Dev nD) : ℕ → FVec F S1x1024 .f32
  | 0 => k0_pay1 (xsub m c 0)
  | n + 1 => mulf (carry c n) (k0_pay1 (xsub m c (Fin.ofNat 16 (n + 1))))

/-- The row of products of all of device `c`'s rows. -/
def tot (c : Dev nD) : FVec F S1x1024 .f32 := carry m c 15

/-- The seven shares of a device's row of totals, one per copy in flight. -/
def tsh : Fin 7 → PosShare TreeShare
  | 0 => fullShare.left.left.left
  | 1 => fullShare.left.left.right
  | 2 => fullShare.left.right.left
  | 3 => fullShare.left.right.right
  | 4 => fullShare.right.left.left
  | 5 => fullShare.right.left.right
  | 6 => fullShare.right.right

/-- Slot `j` of device `c`'s landing buffer, at some contents of the whole buffer. -/
def slotPts (c : Dev nD) (j : Fin 7) (f : Buf (Elt F) ((slotM j).view.loc (c : Thread nD τ))) : sProp 𝕄 :=
  (slotM j).view.loc (c : Thread nD τ) ↦[(slotM j).view.set]{fullShare} f
/-- A share of device `c`'s row of totals. -/
def tPts (c : Dev nD) (q : PosShare TreeShare) (f : Buf (Elt F) ((tM : Memref sig .tc .vmem S1x1024 .f32).view.loc (c : Thread nD τ))) : sProp 𝕄 :=
  (tM : Memref sig .tc .vmem S1x1024 .f32).view.loc (c : Thread nD τ) ↦[(tM : Memref sig .tc .vmem S1x1024 .f32).view.set]{q} f

instance slotPts_storable (c : Dev nD) (j : Fin 7) (f) : BI.Storable (upEmb : UEmb _ 𝕄) (slotPts (F := F) c j f) := by unfold slotPts; infer_instance
instance tPts_storable (c : Dev nD) (q f) : BI.Storable (upEmb : UEmb _ 𝕄) (tPts (F := F) c q f) := by unfold tPts; infer_instance

/-! ## The schedule -/

/-- What `up c i`'s signal hands `c`: the slot that `c`'s copy in direction `i` fills. -/
def barPay (c : Dev nD) (i : Fin 7) : sProp 𝕄 := iprop(∃ f, slotPts (up c i) i f)
/-- What the arrival in slot `j` of device `c` gives. -/
def recvPay (c : Dev nD) (j : Fin 7) : sProp 𝕄 :=
  iprop(∃ f, ⌜(slotM j).view.read (Elt F) f = tot m (up c (rev j))⌝ ∗ slotPts c j f)
/-- What the departure of the copy in direction `j` gives back. -/
def sendPay (c : Dev nD) (j : Fin 7) : sProp 𝕄 := tPts c (tsh j) (tot m c)

instance barPay_storable (c : Dev nD) (i : Fin 7) : BI.Storable (upEmb : UEmb _ 𝕄) (barPay (F := F) c i) := by unfold barPay; infer_instance
instance recvPay_storable (c : Dev nD) (i : Fin 7) : BI.Storable (upEmb : UEmb _ 𝕄) (recvPay m c i) := by unfold recvPay; infer_instance
instance sendPay_storable (c : Dev nD) (i : Fin 7) : BI.Storable (upEmb : UEmb _ 𝕄) (sendPay m c i) := by unfold sendPay; infer_instance

/-- What a cell's duty gives: by the semaphore. -/
def pay (c : Dev nD) (d : Fin 7) : SemLoc sig → sProp 𝕄
  | .reg _ => barPay c d
  | .dma q => if 17 ≤ q.val then recvPay m c (Fin.ofNat 7 (q.val - 17)) else sendPay m c (Fin.ofNat 7 (q.val - 10))

/-- One round, round 0: seven duties of one unit on a regular cell, one duty of a row's credit on a transfer's cell. -/
def Rd : Rounds.Schedule (GSem nD τ sig) (Fin 7) 𝕄 where
  duties g r := if r = 0 then (match g.2 with | .reg _ => Finset.univ | .dma _ => {0}) else ∅
  unitless _ := False
  amount g _ _ := match g.2 with | .reg _ => 1 | .dma _ => N
  payload g _ d := pay m g.1.1 d g.2
  amount_pos g _ _ _ := by
    split
    · exact Nat.one_pos
    · exact N_pos

instance Rd_storable (g : GSem nD τ sig) (r : ℕ) (d : Fin 7) :
    BI.Storable (upEmb : UEmb _ 𝕄) ((Rd m).payload g r d) := by
  show BI.Storable upEmb (pay m g.1.1 d g.2)
  unfold pay
  (repeat' split) <;> infer_instance

section Sched
variable (c : Dev nD) (j d : Fin 7)

theorem duties_bar : (Rd m).duties (barCell c) 0 = Finset.univ := rfl
theorem duties_dma (q : DmaSem sig) : (Rd m).duties ((c : Thread nD τ), .dma q) 0 = {0} := rfl
theorem duties_later (g : GSem nD τ sig) : ∀ r, 1 ≤ r → (Rd m).duties g r = ∅ :=
  fun r hr => by dsimp only [Rd]; rw [if_neg fun h => by omega]
theorem amount_bar : (Rd m).amount (barCell c) 0 d = 1 := rfl
theorem amount_dma (q : DmaSem sig) : (Rd m).amount ((c : Thread nD τ), .dma q) 0 d = N := rfl
theorem expect_bar : (Rd m).expect (barCell c) 0 = 7 := by
  unfold Schedule.expect Schedule.amountOf
  rw [duties_bar, Finset.sum_congr rfl fun d _ => amount_bar m c d, Finset.sum_const, Finset.card_univ, Fintype.card_fin, smul_eq_mul]
theorem expect_dma (q : DmaSem sig) : (Rd m).expect ((c : Thread nD τ), .dma q) 0 = N := by
  unfold Schedule.expect Schedule.amountOf; rw [duties_dma, Finset.sum_singleton, amount_dma]
theorem payload_bar : (Rd m).payload (barCell c) 0 d = barPay c d := rfl
theorem payload_send : (Rd m).payload (sendCell c j) 0 d = sendPay m c j := by
  show (if 17 ≤ 10 + j.val then _ else sendPay m c (Fin.ofNat 7 (10 + j.val - 10))) = _
  rw [if_neg (by omega), Nat.add_sub_cancel_left]
  exact congrArg _ (Fin.ext (Nat.mod_eq_of_lt j.isLt))
theorem payload_recv : (Rd m).payload (recvCell c j) 0 d = recvPay m c j := by
  show (if 17 ≤ 17 + j.val then recvPay m c (Fin.ofNat 7 (17 + j.val - 17)) else _) = _
  rw [if_pos (by omega), Nat.add_sub_cancel_left]
  exact congrArg _ (Fin.ext (Nat.mod_eq_of_lt j.isLt))

theorem rest_bar : bigSep ((Rd m).duties (barCell c) 0 \ ∅) (fun d => (Rd m).payload (barCell c) 0 d) = bigSep Finset.univ (fun i => barPay c i) := by
  rw [Finset.sdiff_empty]; rfl
theorem rest_send : bigSep ((Rd m).duties (sendCell c j) 0 \ ∅) (fun d => (Rd m).payload (sendCell c j) 0 d) = sendPay m c j := by
  rw [Finset.sdiff_empty, duties_dma, bigSep_singleton, payload_send]
theorem rest_recv : bigSep ((Rd m).duties (recvCell c j) 0 \ ∅) (fun d => (Rd m).payload (recvCell c j) 0 d) = recvPay m c j := by
  rw [Finset.sdiff_empty, duties_dma, bigSep_singleton, payload_recv]

end Sched

/-! ## What each device owes at launch; the levels -/

/-- The credit of the copy in direction `j`, and the unit of the signal in direction `j`. -/
abbrev tr (c : Dev nD) (j : Fin 7) : CellTallies nD τ sig Unit := tallyAt (recvCell (up c j) j) () N
abbrev tb (c : Dev nD) (j : Fin 7) : CellTallies nD τ sig Unit := tallyAt (barCell (up c j)) () 1

/-- What device `c` owes from its copies, the first copy's the last summand; -/
def O₁ (c : Dev nD) : CellTallies nD τ sig Unit := tr c 6 + tr c 5 + tr c 4 + tr c 3 + tr c 2 + tr c 1 + tr c 0
/-- and with its signals, the first signal's the last. -/
def O₀ (c : Dev nD) : CellTallies nD τ sig Unit := O₁ c + tb c 6 + tb c 5 + tb c 4 + tb c 3 + tb c 2 + tb c 1 + tb c 0

theorem O₁_eq (c : Dev nD) : O₁ c = ∑ j, tr c j := by unfold O₁; rw [Fin.sum_univ_seven]; ac_rfl
theorem O₀_eq (c : Dev nD) : O₀ c = O₁ c + ∑ j, tb c j := by unfold O₀; rw [Fin.sum_univ_seven]; ac_rfl

def L (g : GSem nD τ sig) : Finset Unit := if g.1.2 = .tc then {()} else ∅
/-- Barrier cells at 1, receive cells at 2, everything else at 0. -/
def lv (g : GSem nD τ sig) (_ : Unit) : ℕ := match g.2 with | .reg _ => 1 | .dma q => if 17 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (j : Fin 7) (u : Unit) : lv (recvCell c j) u = 2 := if_pos (by show 17 ≤ 17 + j.val; omega)
theorem lv_bar (c : Dev nD) (u : Unit) : lv (barCell c) u = 1 := rfl
theorem lv_local (c : Dev nD) (q : DmaSem sig) (hq : q.val < 17) (u : Unit) : lv ((c : Thread nD τ), .dma q) u = 0 := if_neg (by omega)

theorem O₁_apply (c : Dev nD) (g : GSem nD τ sig) (u : Unit) : O₁ c g u = ∑ j, tr c j g u := by
  rw [O₁_eq, Finset.sum_apply, Finsupp.finset_sum_apply]
theorem O₀_apply (c : Dev nD) (g : GSem nD τ sig) (u : Unit) : O₀ c g u = ∑ j, tr c j g u + ∑ j, tb c j g u := by
  rw [O₀_eq, Pi.add_apply, Finsupp.add_apply, O₁_apply, Finset.sum_apply, Finsupp.finset_sum_apply]

theorem tally_pos {g g' : GSem nD τ sig} {n : ℕ} {u : Unit} (h : 0 < (tallyAt g () n : CellTallies nD τ sig Unit) g' u) : g' = g := by
  rw [tallyAt_apply] at h
  by_contra hn
  rw [if_neg (fun h' => hn h'.1)] at h
  exact Nat.lt_irrefl 0 h

theorem O₁_pos {c : Dev nD} {g : GSem nD τ sig} {u : Unit} (h : 0 < O₁ c g u) : ∃ j, g = recvCell (up c j) j := by
  rw [O₁_apply] at h
  obtain ⟨j, -, hj⟩ := Finset.exists_ne_zero_of_sum_ne_zero (Nat.pos_iff_ne_zero.mp h)
  exact ⟨j, tally_pos (Nat.pos_iff_ne_zero.mpr hj)⟩
theorem O₀_pos {c : Dev nD} {g : GSem nD τ sig} {u : Unit} (h : 0 < O₀ c g u) :
    (∃ j, g = recvCell (up c j) j) ∨ ∃ j, g = barCell (up c j) := by
  rw [O₀_apply] at h
  rcases Nat.add_pos_iff_pos_or_pos.mp h with h | h
  · obtain ⟨j, -, hj⟩ := Finset.exists_ne_zero_of_sum_ne_zero (Nat.pos_iff_ne_zero.mp h)
    exact .inl ⟨j, tally_pos (Nat.pos_iff_ne_zero.mpr hj)⟩
  · obtain ⟨j, -, hj⟩ := Finset.exists_ne_zero_of_sum_ne_zero (Nat.pos_iff_ne_zero.mp h)
    exact .inr ⟨j, tally_pos (Nat.pos_iff_ne_zero.mpr hj)⟩

/-- A local transfer's wait, with the copies' credits owed. -/
theorem mayWait_local (c : Dev nD) (q : DmaSem sig) (hq : q.val < 17) :
    (levAts L lv : sProp 𝕄) ⊢ MayWait (c : Thread nD τ) (.dma q) () (O₁ c) :=
  MayOwe.of_cut (L := L) (lev := lv) 0 (fun p hp => by rw [Finset.mem_singleton.mp hp, L_tc]; exact Finset.mem_singleton_self _)
    (fun g u hg => by obtain ⟨j, rfl⟩ := O₁_pos hg; exact Finset.mem_singleton_self _)
    (fun p hp => by rw [Finset.mem_singleton.mp hp]; exact (lv_local c q hq ()).le)
    (fun g u hg => by obtain ⟨j, rfl⟩ := O₁_pos hg; rw [lv_recv]; decide)

/-- The barrier wait, with the copies' credits owed. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨j, rfl⟩ := O₁_pos hg; exact Finset.mem_singleton_self _)
    (fun p hp => by rw [Finset.mem_singleton.mp hp]; exact (lv_bar c ()).le)
    (fun g u hg => by obtain ⟨j, rfl⟩ := O₁_pos hg; rw [lv_recv]; decide)

/-! ## The cells' indices and what a device holds of the protocol -/

/-- The fifteen cells of a device: the barrier's, the seven send cells, the seven receive cells. -/
def csem (i : Fin 15) : SemLoc sig := if i.val = 0 then .reg barS else .dma (⟨9 + i.val, by show 9 + i.val < 24; omega⟩ : DmaSem sig)
abbrev kcell (ck : Dev nD × Fin 15) : GSem nD τ sig := ((ck.1 : Thread nD τ), csem ck.2)

set_option backward.proofsInPublic true in
def ixS (j : Fin 7) : Fin 15 := ⟨1 + j.val, by omega⟩
set_option backward.proofsInPublic true in
def ixR (j : Fin 7) : Fin 15 := ⟨8 + j.val, by omega⟩
theorem csem_zero : csem 0 = .reg barS := rfl
theorem csem_S (j : Fin 7) : csem (ixS j) = .dma (sendS j) := by revert j; decide
theorem csem_R (j : Fin 7) : csem (ixR j) = .dma (recvS j) := by revert j; decide

/-- The invariants of all the cells, under the names `K`, and that each has reached round 0. -/
def records (K : Dev nD × Fin 15 → ℕ) : sProp 𝕄 :=
  iprop(bigSep (Finset.univ : Finset (Dev nD × Fin 15)) (fun ck => cellInv ER (Rd m) (K ck) (kcell ck))
    ∗ bigSep (Finset.univ : Finset (Dev nD × Fin 15)) (fun ck => reached ER (kcell ck) 0))

instance records_persistent (K : Dev nD × Fin 15 → ℕ) : BI.Persistent (records m K) := by unfold records; infer_instance

theorem records_inv (K : Dev nD × Fin 15 → ℕ) (c : Dev nD) (i : Fin 15) :
    (records m K : sProp 𝕄) ⊢ cellInv ER (Rd m) (K (c, i)) ((c : Thread nD τ), csem i) := by
  unfold records
  exact sep_elim_left.trans (bigSep_elim (Φ := fun ck : Dev nD × Fin 15 => (cellInv ER (Rd m) (K ck) (kcell ck) : sProp 𝕄)) (Finset.mem_univ (c, i)))
theorem records_reached (K : Dev nD × Fin 15 → ℕ) (c : Dev nD) (i : Fin 15) :
    (records m K : sProp 𝕄) ⊢ reached ER ((c : Thread nD τ), csem i) 0 := by
  unfold records
  exact sep_elim_right.trans (bigSep_elim (Φ := fun ck : Dev nD × Fin 15 => (reached ER (kcell ck) 0 : sProp 𝕄)) (Finset.mem_univ (c, i)))

/-- The tokens device `c` pays with in direction `j`. -/
def payToks (c : Dev nD) (j : Fin 7) : sProp 𝕄 :=
  iprop(dutyTok ER (barCell (up c j)) 0 (rev j) ∗ dutyTok ER (sendCell c j) 0 0 ∗ dutyTok ER (recvCell (up c j) j) 0 0)

end Cert.Cumprod
-- ==== Proof.Run.lean ====
/-
What one device starts its body from and ends with, and the facts of the protocol in the form the run reads them.
-/
module

public import proofs.«01_k».proof.Proof.Protocol

@[expose] public section

noncomputable section

namespace Cert.Cumprod

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

abbrev 𝒱₀ : Variants := Variants.none

abbrev aM : Memref sig .tc .hbm S4096x1024 .f32 := Memref.whole main_arg0
abbrev oM : Memref sig .tc .hbm S4096x1024 .bf16 := Memref.whole main_v1

/-- A buffer held whole. -/
abbrev held (c : Dev nD) {sp : Space} {S : Shape} {e : EltTy} (M : Memref sig .tc sp S e)
    (f : Buf (Elt F) (M.view.loc (c : Thread nD τ))) : sProp 𝕄 :=
  M.view.loc (c : Thread nD τ) ↦[Finset.univ]{fullShare} f

/-- What a device knows of direction `j`: the cells of its transfers and its peer's. -/
def know (K : Dev nD × Fin 15 → ℕ) (c : Dev nD) (j : Fin 7) : sProp 𝕄 :=
  iprop((cellInv ER (Rd m) (K (up c j, 0)) (barCell (up c j)) ∗ reached ER (barCell (up c j)) 0)
    ∗ (cellInv ER (Rd m) (K (c, ixS j)) (sendCell c j) ∗ reached ER (sendCell c j) 0)
    ∗ cellInv ER (Rd m) (K (c, ixR j)) (recvCell c j)
    ∗ (cellInv ER (Rd m) (K (up c j, ixR j)) (recvCell (up c j) j) ∗ reached ER (recvCell (up c j) j) 0))

instance know_persistent (K : Dev nD × Fin 15 → ℕ) (c : Dev nD) (j : Fin 7) : BI.Persistent (know m K c j) := by
  unfold know; infer_instance

theorem records_bar (K : Dev nD × Fin 15 → ℕ) (c : Dev nD) :
    (records m K : sProp 𝕄) ⊢ cellInv ER (Rd m) (K (c, 0)) (barCell c) := records_inv m K c 0

theorem records_know (K : Dev nD × Fin 15 → ℕ) (c : Dev nD) (j : Fin 7) : (records m K : sProp 𝕄) ⊢ know m K c j := by
  have hs := records_inv m K c (ixS j)
  have hs' := records_reached m K c (ixS j)
  have hr := records_inv m K c (ixR j)
  have hp := records_inv m K (up c j) (ixR j)
  have hp' := records_reached m K (up c j) (ixR j)
  rw [csem_S] at hs hs'
  rw [csem_R] at hr hp hp'
  iintro #H
  unfold know
  isplitr
  · isplitr
    · iapply (records_inv m K (up c j) 0); iexact H
    · iapply (records_reached m K (up c j) 0); iexact H
  isplitr
  · isplitr
    · iapply hs; iexact H
    · iapply hs'; iexact H
  isplitr
  · iapply hr; iexact H
  isplitr
  · iapply hp; iexact H
  · iapply hp'; iexact H

theorem barduty (c : Dev nD) (j : Fin 7) : j ∈ (Rd m).duties (barCell c) 0 := Finset.mem_univ _

/-- What a device holds of the protocol in direction `j`: where it stands at its two cells, what it pays with, its
    slot, which it hands over first, and the credit of the arrival in it. -/
def dir (c : Dev nD) (j : Fin 7) : sProp 𝕄 :=
  iprop(atPos ER (sendCell c j) 0 ∅ 0 ∗ atPos ER (recvCell c j) 0 ∅ 0 ∗ payToks c j
    ∗ barPay (up c j) (rev j) ∗ cred (tallyAt (recvCell c j) () N))

/-- What a device's body starts from. -/
def runPre (K : Dev nD × Fin 15 → ℕ) (c : Dev nD) (W : Waits sig Unit)
    (fo : Buf (Elt F) (oM.view.loc (c : Thread nD τ)))
    (fx : Buf (Elt F) (xM.view.loc (c : Thread nD τ))) (fl : Buf (Elt F) (lM.view.loc (c : Thread nD τ)))
    (fs : Buf (Elt F) (sM.view.loc (c : Thread nD τ))) (ft : Buf (Elt F) (tM.view.loc (c : Thread nD τ))) : sProp 𝕄 :=
  iprop(records m K ∗ levAts L lv
    ∗ (semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0)
    ∗ (held c aM (m ((c : Thread nD τ).loc main_arg0)) ∗ held c oM fo ∗ held c xM fx ∗ held c lM fl ∗ held c sM fs ∗ held c tM ft)
    ∗ (atPos ER (barCell c) 0 ∅ 0 ∗ cred (tallyAt (barCell c) () 7))
    ∗ (dir c 0 ∗ dir c 1 ∗ dir c 2 ∗ dir c 3 ∗ dir c 4 ∗ dir c 5 ∗ dir c 6)
    ∗ owes (c : Thread nD τ) (O₀ c) W)

end Cert.Cumprod
-- ==== Proof.Send.lean ====
/-
One copy of a device's row of totals to a peer; the row's shares; the landed rows put together.
-/
module

public import proofs.«01_k».proof.Proof.Run
public import Idealize.ShloMosaic.Lib.Pipeline.Value

@[expose] public section

noncomputable section

namespace Cert.Cumprod

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ
variable (m : (ℓ : Loc nD τ sig) → Buf (Elt F) ℓ)

/-- A family over the seven directions, one by one. -/
theorem bigSep7 (Φ : Fin 7 → sProp 𝕄) : bigSep Finset.univ Φ = iprop(Φ 0 ∗ Φ 1 ∗ Φ 2 ∗ Φ 3 ∗ Φ 4 ∗ Φ 5 ∗ Φ 6) :=
  BI.bigSep_univ_eq_bigSepL [0, 1, 2, 3, 4, 5, 6] (by decide) (by decide) Φ

/-- The copy in direction `j`: the device lends a share of its row, hands over the peer's slot, and owes the peer's
    credit no more. -/
theorem send_row (K : Dev nD × Fin 15 → ℕ) (c : Dev nD) (j : Fin 7) {n : Dev nD} (hn : n = up c j)
    {dst : Memref sig .tc .vmem S1x1024 .f32} (hd : dst = slotM j) {sS sR : SemLoc sig} (hS : sS = .dma (sendS j)) (hR : sR = .dma (recvS j))
    {hsc : dst.view.ref.isScScratch = false} {hsrc : (tM : Memref sig .tc .vmem S1x1024 .f32).view.WordExact} {hdst : dst.view.WordExact}
    {hsem : DmaTarget.Typed .vmem sR (.remote (Dev.tc n : Thread nD τ) dst sS hsc)}
    {α : Type} {k : PUnit → Prog (TpuEff nD τ sig (Elt F) Λ₀ .tc) α} {Q : α → sProp 𝕄}
    (O O' : CellTallies nD τ sig Unit) (hO : O' = O + tr c j) (W : Waits sig Unit) :
    iprop(cellInv ER (Rd m) (K (c, ixS j)) (sendCell c j) ∗ cellInv ER (Rd m) (K (up c j, ixR j)) (recvCell (up c j) j)
      ∗ tPts c (tsh j) (tot m c) ∗ barPay (F := F) c j ∗ owes (c : Thread nD τ) O' W
      ∗ dutyTok ER (sendCell c j) 0 0 ∗ reached ER (sendCell c j) 0 ∗ dutyTok ER (recvCell (up c j) j) 0 0 ∗ reached ER (recvCell (up c j) j) 0)
    ⊢ iprop(((cred (tallyAt (sendCell c j) () N) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma tM (.remote (Dev.tc n : Thread nD τ) dst sS hsc) sR hsrc hdst hsem) k) Q) := by
  subst hn hd hS hR
  have hpay₁ : (tPts c (tsh j) (tot m c) : sProp 𝕄) ⊢ (Rd m).payload (sendCell c j) 0 0 := by rw [payload_send]; exact fun _ h => h
  have hpay₂ : ∀ fd : Buf (Elt F) ((slotM j).view.loc (up c j : Thread nD τ)), (slotPts (up c j) j
      ((slotM j).view.write (Elt F) fd ((tM : Memref sig .tc .vmem S1x1024 .f32).view.read (Elt F) (tot m c : Buf (Elt F) ((tM : Memref sig .tc .vmem S1x1024 .f32).view.loc (c : Thread nD τ)))) Finset.univ) : sProp 𝕄)
      ⊢ (Rd m).payload (recvCell (up c j) j) 0 0 := by
    intro fd
    rw [payload_recv, recvPay, up_rev]
    iintro H
    iexists ((slotM j).view.write (Elt F) fd ((tM : Memref sig .tc .vmem S1x1024 .f32).view.read (Elt F) (tot m c : Buf (Elt F) ((tM : Memref sig .tc .vmem S1x1024 .f32).view.loc (c : Thread nD τ)))) Finset.univ)
    isplitr
    · ipureintro
      exact View.read_write_univ (v := (slotM j).view) (Val := Elt F) fd _
    · iexact H
  unfold barPay slotPts tPts
  iintro ⟨HI, HJ, HT, HB, HO, D1, R1, D2, R2⟩ Hk
  icases HB with ⟨%fd, HB⟩
  iapply (Rounds.wp_send_pointsTo 𝒱₀ ER (Rd m) (c : Thread nD τ) none (c' := (up c j : Thread nD τ)) (κ₁ := K (c, ixS j)) (κ₂ := K (up c j, ixR j)) (r₁ := 0) (r₂ := 0)
    (d₁ := 0) (d₂ := 0) (by rw [duties_dma]; exact Finset.mem_singleton_self _) (by rw [duties_dma]; exact Finset.mem_singleton_self _) () () N rfl
    (amount_dma m c 0 _) (amount_dma m (up c j) 0 _) O hO hpay₁ (hpay₂ fd)) $$ [HI HJ HT HB HO D1 R1 D2 R2]
  · isplitl [HI]; · iexact HI
    isplitl [HJ]; · iexact HJ
    isplitl [HT]; · iexact HT
    isplitl [HB]; · iexact HB
    isplitl [HO]; · iexact HO
    isplitl [D1]; · iexact D1
    isplitl [R1]; · iexact R1
    isplitl [D2]; · iexact D2
    iexact R2
  · iexact Hk

theorem sem_inb (j : Fin 7) : ∀ a, (![j.val] : Fin S7.rank → ℕ) a + S1.size a ≤ S7.size a := by revert j; decide
theorem send_sem (j : Fin 7) : ((cc0_scratch7.slice (Rect.unit (s := S7) ![j.val] S1.size (sem_inb j))).squeeze S_ squeezes_S1_S_).sem = sendS j := by
  revert j; decide +kernel
theorem recv_sem (j : Fin 7) : ((cc0_scratch8.slice (Rect.unit (s := S7) ![j.val] S1.size (sem_inb j))).squeeze S_ squeezes_S1_S_).sem = recvS j := by
  revert j; decide +kernel

/-- The same copy, its slot and semaphores spelt by the row's number, as the kernel spells them. -/
theorem send_at (K : Dev nD × Fin 15 → ℕ) (c : Dev nD) (j : Fin 7) {n : Dev nD} (hn : n = up c j) (v : ℕ) (hv : v = j.val)
    {h4 : ∀ a, (![v, 0] : Fin S7x1024.rank → ℕ) a + S1x1024.size a ≤ S7x1024.size a} {h1 h7 h8 hq hq'}
    {hsc hsrc hdst hsem} {α : Type} {k : PUnit → Prog (TpuEff nD τ sig (Elt F) Λ₀ .tc) α} {Q : α → sProp 𝕄}
    (O O' : CellTallies nD τ sig Unit) (hO : O' = O + tr c j) (W : Waits sig Unit) :
    cellInv ER (Rd m) (K (c, ixS j)) (sendCell c j) ⊢ iprop(cellInv ER (Rd m) (K (up c j, ixR j)) (recvCell (up c j) j)
      -∗ reached ER (sendCell c j) 0 -∗ reached ER (recvCell (up c j) j) 0
      -∗ owes (c : Thread nD τ) O' W -∗ tPts c (tsh j) (tot m c) -∗ barPay (F := F) c j
      -∗ dutyTok ER (sendCell c j) 0 0 -∗ dutyTok ER (recvCell (up c j) j) 0 0
      -∗ ((cred (tallyAt (sendCell c j) () N) ∗ owes (c : Thread nD τ) O W) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma tM (.remote (Dev.tc n : Thread nD τ) ((cM : Memref sig .tc .vmem S7x1024 .f32).slice (Rect.unit (s := S7x1024) ![v, 0] S1x1024.size h4) h1)
              (.dma ((cc0_scratch7.slice (Rect.unit (s := S7) ![v] S1.size h7)).squeeze S_ hq).sem) hsc)
            (.dma ((cc0_scratch8.slice (Rect.unit (s := S7) ![v] S1.size h8)).squeeze S_ hq').sem) hsrc hdst hsem) k) Q) := by
  subst hv
  iintro HI HJ R1 R2 HO HT HB D1 D2 Hk
  iapply (send_row m K c j hn rfl (congrArg SemLoc.dma (send_sem j)) (congrArg SemLoc.dma (recv_sem j)) O O' hO W) $$ [HI HJ R1 R2 HO HT HB D1 D2]
  · iframe
  · iexact Hk

/-- The row of totals, held whole, in its seven shares; and back. -/
theorem row_shares (c : Dev nD) (f : Buf (Elt F) ((tM : Memref sig .tc .vmem S1x1024 .f32).view.loc (c : Thread nD τ))) :
    (held c tM f : sProp 𝕄) ⊣⊢ iprop(tPts c (tsh 0) f ∗ tPts c (tsh 1) f ∗ tPts c (tsh 2) f ∗ tPts c (tsh 3) f ∗ tPts c (tsh 4) f ∗ tPts c (tsh 5) f ∗ tPts c (tsh 6) f) := by
  have hset : (tM : Memref sig .tc .vmem S1x1024 .f32).view.set = Finset.univ := View.set_whole _
  unfold tPts held
  rw [hset]
  have sp : ∀ q : PosShare TreeShare, ((tM : Memref sig .tc .vmem S1x1024 .f32).view.loc (c : Thread nD τ) ↦{q} f : sProp 𝕄)
      = iprop(((tM : Memref sig .tc .vmem S1x1024 .f32).view.loc (c : Thread nD τ) ↦{q.left} f) ∗ (tM : Memref sig .tc .vmem S1x1024 .f32).view.loc (c : Thread nD τ) ↦{q.right} f) :=
    fun q => BI.Entails.antisymm (pointsTo_share (PosShare.mem_left_op_right q)).1 (pointsTo_share (PosShare.mem_left_op_right q)).2
  rw [sp fullShare, sp fullShare.left, sp fullShare.right, sp fullShare.left.left, sp fullShare.left.right, sp fullShare.right.left]
  simp only [tsh]
  constructor
  · iintro ⟨⟨⟨H0, H1⟩, H2, H3⟩, ⟨H4, H5⟩, H6⟩
    iframe
  · iintro ⟨H0, H1, H2, H3, H4, H5, H6⟩
    iframe

/-- The place of column `k` in a row; -/
def rowIx (k : Fin 1024) : S1x1024.Idx
  | ⟨0, _⟩ => (0 : Fin 1)
  | ⟨1, _⟩ => k

/-- The landed rows: row `j` of device `c` is the row of totals of the device that sent it. -/
def lrows (c : Dev nD) : FVec F S7x1024 .f32 := fun i => tot m (up c (rev (i 0))) (rowIx (i 1))

theorem slot_emb (j : Fin 7) (x : S1x1024.Idx) : ((slotM j).view.emb x : S7x1024.Idx) 0 = j ∧ rowIx (((slotM j).view.emb x : S7x1024.Idx) 1) = x := by
  have h0 : (x 0).val = 0 := Nat.lt_one_iff.mp (x 0).isLt
  refine ⟨Fin.ext ?_, ?_⟩
  · show j.val + 1 * (x 0).val = j.val
    omega
  · funext a
    match a with
    | ⟨0, _⟩ => exact Fin.ext h0.symm
    | ⟨1, _⟩ => exact Fin.ext (show 0 + 1 * (x 1).val = (x 1).val by omega)

theorem mem_slot (j : Fin 7) (i : S7x1024.Idx) : i ∈ (slotM j).view.set ↔ i 0 = j := by
  constructor
  · intro h
    obtain ⟨x, -, rfl⟩ := Finset.mem_map.mp h
    exact (slot_emb j x).1
  · rintro rfl
    refine Finset.mem_map.mpr ⟨rowIx (i 1), Finset.mem_univ _, ?_⟩
    funext a
    match a with
    | ⟨0, _⟩ => exact Fin.ext (show (i 0).val + 1 * 0 = (i 0).val by omega)
    | ⟨1, _⟩ => exact Fin.ext (show 0 + 1 * (i 1).val = (i 1).val by omega)

/-- A landed row, as part of the landed rows. -/
theorem recv_row (c : Dev nD) (j : Fin 7) : (recvPay m c j : sProp 𝕄) ⊢ cM.view.loc (c : Thread nD τ) ↦[(slotM j).view.set]{fullShare} lrows m c := by
  have key : ∀ f : Buf (Elt F) ((slotM j).view.loc (c : Thread nD τ)), (slotM j).view.read (Elt F) f = tot m (up c (rev j)) →
      ((slotM j).view.loc (c : Thread nD τ) ↦[(slotM j).view.set]{fullShare} f : sProp 𝕄)
        = (slotM j).view.loc (c : Thread nD τ) ↦[(slotM j).view.set]{fullShare} (lrows m c : Buf (Elt F) ((slotM j).view.loc (c : Thread nD τ))) := by
    intro f hf
    refine pointsTo_congr fun i hi => ?_
    obtain ⟨x, -, rfl⟩ := Finset.mem_map.mp hi
    obtain ⟨h0, h1⟩ := slot_emb j x
    exact (congrFun hf x).trans (show lrows m c ((slotM j).view.emb x) = tot m (up c (rev j)) x by unfold lrows; rw [h0, h1]).symm
  unfold recvPay slotPts
  iintro ⟨%f, %hf, H⟩
  ihave H := (Entails.of_eq (key f hf)) $$ H
  iexact H

/-- The seven landed rows make the landing buffer. -/
theorem recv_rows (c : Dev nD) :
    iprop(recvPay m c 0 ∗ recvPay m c 1 ∗ recvPay m c 2 ∗ recvPay m c 3 ∗ recvPay m c 4 ∗ recvPay m c 5 ∗ recvPay m c 6 : sProp 𝕄) ⊢ held c cM (lrows m c) := by
  have hcov : (Finset.univ : Finset S7x1024.Idx) = (Finset.univ : Finset (Fin 7)).biUnion (fun j => (slotM j).view.set) := by
    ext i; simp only [Finset.mem_univ, Finset.mem_biUnion, true_and, true_iff]; exact ⟨i 0, (mem_slot _ i).mpr rfl⟩
  have hj : ((cM.view.loc (c : Thread nD τ) ↦[(Finset.univ : Finset S7x1024.Idx)]{fullShare} (lrows m c : Buf (Elt F) (cM.view.loc (c : Thread nD τ)))) : sProp 𝕄)
      = bigSep (Finset.univ : Finset (Fin 7)) (fun j => cM.view.loc (c : Thread nD τ) ↦[(slotM j).view.set]{fullShare} (lrows m c : Buf (Elt F) (cM.view.loc (c : Thread nD τ)))) := by
    rw [hcov]
    refine pointsTo_biUnion (ℓ := cM.view.loc (c : Thread nD τ)) _ _ fun t _ t' _ hne => Finset.disjoint_left.mpr fun i h h' => hne ?_
    rw [← (mem_slot t i).mp h, ← (mem_slot t' i).mp h']
  refine BIBase.Entails.trans ?_ (Entails.of_eq hj.symm)
  rw [bigSep7]
  iintro ⟨H0, H1, H2, H3, H4, H5, H6⟩
  ihave H0 := recv_row m c 0 $$ H0
  ihave H1 := recv_row m c 1 $$ H1
  ihave H2 := recv_row m c 2 $$ H2
  ihave H3 := recv_row m c 3 $$ H3
  ihave H4 := recv_row m c 4 $$ H4
  ihave H5 := recv_row m c 5 $$ H5
  ihave H6 := recv_row m c 6 $$ H6
  iframe

/-- One by one: the landed rows, and the shares that come back. -/
theorem recv_all (c : Dev nD) : (recvPay m c 0 : sProp 𝕄) ⊢ iprop(recvPay m c 1 -∗ recvPay m c 2 -∗ recvPay m c 3 -∗ recvPay m c 4 -∗ recvPay m c 5 -∗ recvPay m c 6
    -∗ held c cM (lrows m c)) := by
  iintro H0 H1 H2 H3 H4 H5 H6
  iapply (recv_rows m c)
  iframe

theorem send_all (c : Dev nD) : (sendPay m c 0 : sProp 𝕄) ⊢ iprop(sendPay m c 1 -∗ sendPay m c 2 -∗ sendPay m c 3 -∗ sendPay m c 4 -∗ sendPay m c 5 -∗ sendPay m c 6
    -∗ held c tM (tot m c)) := by
  iintro H0 H1 H2 H3 H4 H5 H6
  unfold sendPay
  iapply (row_shares c _).2
  iframe

end Cert.Cumprod
-- ==== Proof.Run1.lean ====
/-
The first stretch of the body's run: the signals, the loads' start, the blocks' products and the first eight scans,
the row of totals, up to the barrier wait.
-/
module
public import proofs.«01_k».proof.Proof.Run
@[expose] public section
noncomputable section
namespace Cert.Cumprod
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)

attribute [local sl_rounds] duties_bar duties_dma amount_bar amount_dma expect_bar expect_dma payload_bar payload_send payload_recv barduty

set_option maxHeartbeats 8000000 in
set_option sl_exec.dmaWindow true in
def stretch1 (K : Dev nD × Fin 15 → ℕ) (c : Dev nD) (W : Waits sig Unit) (Q : PUnit → sProp 𝕄)
    (fo : Buf (Elt F) (oM.view.loc (c : Thread nD τ)))
    (fx : Buf (Elt F) (xM.view.loc (c : Thread nD τ))) (fl : Buf (Elt F) (lM.view.loc (c : Thread nD τ)))
    (fs : Buf (Elt F) (sM.view.loc (c : Thread nD τ))) (ft : Buf (Elt F) (tM.view.loc (c : Thread nD τ))) :
    Σ' (G : Prop), G → (runPre m K c W fo fx fl fs ft
      ⊢ wp frame (wpE (defs₀ (F := F)) 𝒱₀ (c : Thread nD τ) none) Set.univ
          (cc0_body aM (Memref.isWhole_whole _) oM (Memref.isWhole_whole _)
            xM (Memref.isWhole_whole _) lM (Memref.isWhole_whole _) sM (Memref.isWhole_whole _) tM (Memref.isWhole_whole _) cM (Memref.isWhole_whole _)
            cc0_scratch5 cc0_scratch6 cc0_scratch7 cc0_scratch8) Q) := by
  sl_stretch
  unfold runPre dir payToks
  iintro ⟨#HR, #HL, ⟨Q0, Q1, Q2, Q3, Q4, Q5, Q6, Q7, Q8, Q9⟩, ⟨HA, HOut, HX, HB, HS, HT⟩, ⟨Hbar, HcB⟩,
    ⟨⟨PS0, PR0, ⟨TB0, TS0, TR0⟩, SL0, HC0⟩, ⟨PS1, PR1, ⟨TB1, TS1, TR1⟩, SL1, HC1⟩, ⟨PS2, PR2, ⟨TB2, TS2, TR2⟩, SL2, HC2⟩,
     ⟨PS3, PR3, ⟨TB3, TS3, TR3⟩, SL3, HC3⟩, ⟨PS4, PR4, ⟨TB4, TS4, TR4⟩, SL4, HC4⟩, ⟨PS5, PR5, ⟨TB5, TS5, TR5⟩, SL5, HC5⟩,
     ⟨PS6, PR6, ⟨TB6, TS6, TR6⟩, SL6, HC6⟩⟩, HO⟩
  ihave #IB := records_bar m K c $$ HR
  ihave #K0 := records_know m K c 0 $$ HR
  ihave #K1 := records_know m K c 1 $$ HR
  ihave #K2 := records_know m K c 2 $$ HR
  ihave #K3 := records_know m K c 3 $$ HR
  ihave #K4 := records_know m K c 4 $$ HR
  ihave #K5 := records_know m K c 5 $$ HR
  ihave #K6 := records_know m K c 6 $$ HR
  iclear HR
  unfold know
  icases K0 with ⟨⟨#IB0, #RB0⟩, ⟨#IS0, #RS0⟩, #IR0, ⟨#IP0, #RP0⟩⟩
  icases K1 with ⟨⟨#IB1, #RB1⟩, ⟨#IS1, #RS1⟩, #IR1, ⟨#IP1, #RP1⟩⟩
  icases K2 with ⟨⟨#IB2, #RB2⟩, ⟨#IS2, #RS2⟩, #IR2, ⟨#IP2, #RP2⟩⟩
  icases K3 with ⟨⟨#IB3, #RB3⟩, ⟨#IS3, #RS3⟩, #IR3, ⟨#IP3, #RP3⟩⟩
  icases K4 with ⟨⟨#IB4, #RB4⟩, ⟨#IS4, #RS4⟩, #IR4, ⟨#IP4, #RP4⟩⟩
  icases K5 with ⟨⟨#IB5, #RB5⟩, ⟨#IS5, #RS5⟩, #IR5, ⟨#IP5, #RP5⟩⟩
  icases K6 with ⟨⟨#IB6, #RB6⟩, ⟨#IS6, #RS6⟩, #IR6, ⟨#IP6, #RP6⟩⟩
  have h1 := dev1_eq c
  have h2 := dev2_eq c
  have h3 := dev3_eq c
  have h4 := dev4_eq c
  have h5 := dev5_eq c
  have h6 := dev6_eq c
  have h7 := dev7_eq c
  have hmw : ∀ q : DmaSem sig, q.val < 17 → ((levAts L lv : sProp 𝕄) ⊢ MayWait (c : Thread nD τ) (.dma q) () (O₁ c)) := fun q hq => mayWait_local c q hq
  have hmw0 := hmw 0 (by decide)
  have hmw1 := hmw 1 (by decide)
  have hmw2 := hmw 2 (by decide)
  have hmw3 := hmw 3 (by decide)
  have hmw4 := hmw 4 (by decide)
  have hmw5 := hmw 5 (by decide)
  have hmw6 := hmw 6 (by decide)
  have hmw7 := hmw 7 (by decide)
  have hmwB : (levAts L lv : sProp 𝕄) ⊢ MayWait (c : Thread nD τ) (.reg barS) () (O₁ c) := mayWait_bar c
  clear hmw
  rw [show O₀ c = O₁ c + tb c 6 + tb c 5 + tb c 4 + tb c 3 + tb c 2 + tb c 1 + tb c 0 from rfl]
  set_option sl_exec.stopBefore "k0_part21" in
  sl_exec_parts
  sl_seam

end Cert.Cumprod
-- ==== Proof.Pays.lean ====
/-
The printed payloads, in the two forms they come to: a block's product multiplied into the running one, and a block's
scan.
-/
module

public import proofs.«01_k».proof.Proof.Protocol
public import Idealize.ShloMosaic.Lib.Pipeline.Value

@[expose] public section

noncomputable section

namespace Cert.Cumprod

open Cert.KernelIdeal Cert.KernelIdeal.Gen
open Idealize.ShloMosaic

variable {F : FTy → Type} [FloatOps F]

variable (a : FVec F S1x1024 .f32) (v w : FVec F S256x1024 .f32)

theorem pay5_eq : k0_pay5 a (k0_pay3 v) (k0_pay4 v) = mulf a (k0_pay1 v) := rfl
theorem pay6_eq : k0_pay6 a (k0_pay3 v) (k0_pay4 v) w = mulf (mulf a (k0_pay1 v)) (k0_pay1 w) := rfl
theorem pay7_eq : k0_pay7 a v = mulf a (k0_pay1 v) := rfl
theorem pay12_eq : k0_pay12 a v = mulf a (k0_pay1 v) := rfl
theorem pay15_eq : k0_pay15 a (k0_pay13 v) (k0_pay14 v) = mulf a (k0_pay1 v) := rfl
theorem pay19_eq : k0_pay19 a v = mulf a (k0_pay1 v) := rfl
theorem pay20_eq : k0_pay20 a v w = mulf (mulf a (k0_pay1 v)) (k0_pay1 w) := rfl
theorem pay26_eq : k0_pay26 a (k0_pay25 v) = mulf a (k0_pay1 v) := rfl
theorem pay27_eq : k0_pay27 a (k0_pay25 v) w = mulf (mulf a (k0_pay1 v)) (k0_pay1 w) := rfl
theorem pay39_eq : k0_pay39 a (k0_pay37 v) (k0_pay38 v) = mulf a (k0_pay1 v) := rfl
theorem pay40_eq : k0_pay40 a (k0_pay37 v) (k0_pay38 v) w = mulf (mulf a (k0_pay1 v)) (k0_pay1 w) := rfl
theorem pay44_eq : k0_pay44 a (k0_pay42 v) (k0_pay43 v) = mulf a (k0_pay1 v) := rfl
theorem pay45_eq : k0_pay45 a (k0_pay42 v) (k0_pay43 v) w = mulf (mulf a (k0_pay1 v)) (k0_pay1 w) := rfl
theorem pay49_eq : k0_pay49 a (k0_pay47 v) (k0_pay48 v) = mulf a (k0_pay1 v) := rfl
theorem pay50_eq : k0_pay50 a (k0_pay47 v) (k0_pay48 v) w = mulf (mulf a (k0_pay1 v)) (k0_pay1 w) :=
  (show _ = shapeCast S1x1024 (mulf (mulf a (k0_pay1 v)) (k0_pay1 w)) shapeCasts_S1x1024_S1x1024 from rfl).trans (shapeCast_self _ _)
theorem scan9_eq : k0_pay9 (k0_pay8 v) (Scalar.ofBits .f32 0x3F800000#32) = k0_pay10 v :=
  (show _ = shapeCast S256x1024 (k0_pay10 v) shapeCasts_S256x1024_S256x1024 from rfl).trans (shapeCast_self _ _)
theorem scan11_eq : k0_pay11 (k0_pay10 v) = k0_pay10 v :=
  (show _ = shapeCast S256x1024 (k0_pay10 v) shapeCasts_S256x1024_S256x1024 from rfl).trans (shapeCast_self _ _)
theorem scan17_eq : k0_pay17 (k0_pay16 v) = k0_pay10 v :=
  (show _ = shapeCast S256x1024 (k0_pay10 v) shapeCasts_S256x1024_S256x1024 from rfl).trans (shapeCast_self _ _)
theorem scan18_eq : k0_pay18 v = k0_pay10 v :=
  (show _ = shapeCast S256x1024 (k0_pay10 v) shapeCasts_S256x1024_S256x1024 from rfl).trans (shapeCast_self _ _)
theorem scan21_eq : k0_pay21 v = k0_pay10 v :=
  (show _ = shapeCast S256x1024 (k0_pay10 v) shapeCasts_S256x1024_S256x1024 from rfl).trans (shapeCast_self _ _)
theorem scan24_eq : k0_pay24 (k0_pay22 v) (k0_pay23 v) = k0_pay10 v :=
  (show _ = shapeCast S256x1024 (k0_pay10 v) shapeCasts_S256x1024_S256x1024 from rfl).trans (shapeCast_self _ _)
theorem scan31_eq : k0_pay31 (k0_pay28 v) k0_pay29 (k0_pay30 v) = k0_pay10 v :=
  (show _ = shapeCast S256x1024 (k0_pay10 v) shapeCasts_S256x1024_S256x1024 from rfl).trans (shapeCast_self _ _)
theorem scan35_eq : k0_pay35 (k0_pay32 v) k0_pay33 (k0_pay34 v) = k0_pay10 v :=
  (show _ = shapeCast S256x1024 (k0_pay10 v) shapeCasts_S256x1024_S256x1024 from rfl).trans (shapeCast_self _ _)
theorem scan53_eq : k0_pay53 (k0_pay51 v) k0_pay52 = k0_pay10 v :=
  (show _ = shapeCast S256x1024 (k0_pay10 v) shapeCasts_S256x1024_S256x1024 from rfl).trans (shapeCast_self _ _)
theorem scan56_eq : k0_pay56 (k0_pay54 v) k0_pay55 = k0_pay10 v :=
  (show _ = shapeCast S256x1024 (k0_pay10 v) shapeCasts_S256x1024_S256x1024 from rfl).trans (shapeCast_self _ _)
theorem scan58_eq : k0_pay58 (k0_pay57 v) = k0_pay10 v :=
  (show _ = shapeCast S256x1024 (k0_pay10 v) shapeCasts_S256x1024_S256x1024 from rfl).trans (shapeCast_self _ _)
theorem scan59_eq : k0_pay59 v = k0_pay10 v :=
  (show _ = shapeCast S256x1024 (k0_pay10 v) shapeCasts_S256x1024_S256x1024 from rfl).trans (shapeCast_self _ _)
theorem scan61_eq : k0_pay61 v k0_pay60 = k0_pay10 v :=
  (show _ = shapeCast S256x1024 (k0_pay10 v) shapeCasts_S256x1024_S256x1024 from rfl).trans (shapeCast_self _ _)
theorem scan64_eq : k0_pay64 (k0_pay62 v) k0_pay63 = k0_pay10 v :=
  (show _ = shapeCast S256x1024 (k0_pay10 v) shapeCasts_S256x1024_S256x1024 from rfl).trans (shapeCast_self _ _)
theorem scan67_eq : k0_pay67 (k0_pay65 v) k0_pay66 = k0_pay10 v :=
  (show _ = shapeCast S256x1024 (k0_pay10 v) shapeCasts_S256x1024_S256x1024 from rfl).trans (shapeCast_self _ _)
theorem scan70_eq : k0_pay70 (k0_pay68 v) k0_pay69 = k0_pay10 v :=
  (show _ = shapeCast S256x1024 (k0_pay10 v) shapeCasts_S256x1024_S256x1024 from rfl).trans (shapeCast_self _ _)

/-- The product of the earlier devices' rows of totals: the seven landed rows, those of later devices replaced by ones. -/
def pre (w : BitVec 32) (u : FVec F S7x1024 .f32) : FVec F S1x1024 .f32 := k0_pay74 (k0_pay71 w u) (k0_pay72 w u) (k0_pay73 w u)

/-- A block's scan, scaled by a row. -/
def scale (b : FVec F S256x1024 .bf16) : FVec F S256x1024 .bf16 :=
  truncf .bf16 (mulf (extf .f32 b bitsLt_bf16_f32) (broadcastTo S256x1024 a broadcasts_S1x1024_S256x1024)) bitsLt_bf16_f32

/-- The scaled block in a staging slot's shape. -/
def slab (b : FVec F S256x1024 .bf16) : FVec F S1x256x1024 .bf16 := shapeCast S1x256x1024 (scale a b) shapeCasts_S256x1024_S1x256x1024

variable (b : FVec F S256x1024 .bf16) (p : BitVec 32) (u : FVec F S7x1024 .f32)

theorem store89_eq : k0_pay89 (k0_pay71 p u) (k0_pay72 p u) (k0_pay73 p u) b = slab (pre p u) b := rfl
theorem store91_eq : k0_pay91 (k0_pay90 a (k0_pay71 p u) (k0_pay72 p u) (k0_pay73 p u) b) = slab (mulf a (pre p u)) b := rfl
theorem store92_eq : k0_pay92 a b = slab a b := rfl
theorem store93_eq : k0_pay93 a b = slab a b := rfl
theorem store94_eq : k0_pay94 a b = slab a b := rfl
theorem store95_eq : k0_pay95 a b = slab a b := rfl
theorem store96_eq : k0_pay96 a b = slab a b := rfl
theorem store97_eq : k0_pay97 a b = slab a b := rfl
theorem store98_eq : k0_pay98 a b = slab a b := rfl
theorem store100_eq : k0_pay100 (k0_pay99 a b) = slab a b := rfl
theorem store101_eq : k0_pay101 a b = slab a b := rfl
theorem store102_eq : k0_pay102 a b = slab a b := rfl
theorem store103_eq : k0_pay103 a b = slab a b := rfl
theorem store104_eq : k0_pay104 a b = slab a b := rfl
theorem store105_eq : k0_pay105 a b = slab a b := rfl
theorem store106_eq : k0_pay106 a b = slab a b := rfl
theorem coef75_eq : k0_pay75 a (k0_pay71 p u) (k0_pay72 p u) (k0_pay73 p u) = mulf a (pre p u) := rfl
theorem coef76_eq : k0_pay76 a (k0_pay71 p u) (k0_pay72 p u) (k0_pay73 p u) = mulf a (pre p u) := rfl
theorem coef77_eq : k0_pay77 a (k0_pay71 p u) (k0_pay72 p u) (k0_pay73 p u) = mulf a (pre p u) := rfl
theorem coef78_eq : k0_pay78 a (k0_pay71 p u) (k0_pay72 p u) (k0_pay73 p u) = mulf a (pre p u) := rfl
theorem coef79_eq : k0_pay79 a (k0_pay71 p u) (k0_pay72 p u) (k0_pay73 p u) = mulf a (pre p u) := rfl
theorem coef80_eq : k0_pay80 a (k0_pay71 p u) (k0_pay72 p u) (k0_pay73 p u) = mulf a (pre p u) := rfl
theorem coef81_eq : k0_pay81 a (k0_pay71 p u) (k0_pay72 p u) (k0_pay73 p u) = mulf a (pre p u) := rfl
theorem coef82_eq : k0_pay82 a (k0_pay71 p u) (k0_pay72 p u) (k0_pay73 p u) = mulf a (pre p u) := rfl
theorem coef83_eq : k0_pay83 a (k0_pay71 p u) (k0_pay72 p u) (k0_pay73 p u) = mulf a (pre p u) := rfl
theorem coef84_eq : k0_pay84 a (k0_pay71 p u) (k0_pay72 p u) (k0_pay73 p u) = mulf a (pre p u) := rfl
theorem coef85_eq : k0_pay85 a (k0_pay71 p u) (k0_pay72 p u) (k0_pay73 p u) = mulf a (pre p u) := rfl
theorem coef86_eq : k0_pay86 a (k0_pay71 p u) (k0_pay72 p u) (k0_pay73 p u) = mulf a (pre p u) := rfl
theorem coef87_eq : k0_pay87 a (k0_pay71 p u) (k0_pay72 p u) (k0_pay73 p u) = mulf a (pre p u) := rfl
theorem coef88_eq : k0_pay88 a (k0_pay71 p u) (k0_pay72 p u) (k0_pay73 p u) = mulf a (pre p u) := rfl

end Cert.Cumprod
-- ==== Proof.Vals.lean ====
/-
The values of the body's first stretch: every block it loads is a block of the device's rows, and the row it stores is
the product of them all.
-/
module

public import proofs.«01_k».proof.Proof.Run1
public import proofs.«01_k».proof.Proof.Pays
public import Idealize.ShloMosaic.Lib.Pipeline.FrameBody
public import Idealize.ShloMosaic.Lib.Pipeline.Value

@[expose] public section

noncomputable section

namespace Cert.Cumprod

open Cert.KernelIdeal Cert.KernelIdeal.Gen
open Idealize.ShloMosaic
open Idealize.ShloMosaic.TcCoe

variable {F : FTy → Type} [FloatOps F]
variable (m : (ℓ : Loc nD τ sig) → Buf (Elt F) ℓ)

/-- The eight loads, the last one first. -/
def xlist (c : Dev nD) : List (View.Piece (Elt F) S4096x1024 .f32) :=
  [⟨Rect.unit (s := S4096x1024) ![3584, 0] S512x1024.size inb_S4096x1024_S512x1024_3584_0, stretch1.sl.dma0_7 m c⟩,
   ⟨Rect.unit (s := S4096x1024) ![3072, 0] S512x1024.size inb_S4096x1024_S512x1024_3072_0, stretch1.sl.dma0_6 m c⟩,
   ⟨Rect.unit (s := S4096x1024) ![2560, 0] S512x1024.size inb_S4096x1024_S512x1024_2560_0, stretch1.sl.dma0_5 m c⟩,
   ⟨Rect.unit (s := S4096x1024) ![2048, 0] S512x1024.size inb_S4096x1024_S512x1024_2048_0, stretch1.sl.dma0_4 m c⟩,
   ⟨Rect.unit (s := S4096x1024) ![1536, 0] S512x1024.size inb_S4096x1024_S512x1024_1536_0, stretch1.sl.dma0_3 m c⟩,
   ⟨Rect.unit (s := S4096x1024) ![1024, 0] S512x1024.size inb_S4096x1024_S512x1024_1024_0, stretch1.sl.dma0_2 m c⟩,
   ⟨Rect.unit (s := S4096x1024) ![512, 0] S512x1024.size inb_S4096x1024_S512x1024_512_0, stretch1.sl.dma0_1 m c⟩,
   ⟨Rect.unit (s := S4096x1024) ![0, 0] S512x1024.size inb_S4096x1024_S512x1024_0_0, stretch1.sl.dma0 m c⟩]

/-- What the device is given, as rows. -/
def xrows (c : Dev nD) : S4096x1024.Idx → Elt F .f32 := aM.view.read (Elt F) (m ((c : Thread nD τ).loc main_arg0))

theorem xlist_canon (c : Dev nD) (y : S4096x1024.Idx) : View.canon (xlist m c) y = xrows m c y := by
  refine View.canon_apply_of_pieces (xrows m c) (xlist m c) ?_ y (View.cover_of_tiled (xlist m c) ![512, 1024] rfl y)
  intro p hp x
  simp only [xlist, List.mem_cons, List.not_mem_nil, or_false] at hp
  rcases hp with rfl | rfl | rfl | rfl | rfl | rfl | rfl | rfl <;> rfl

/-- A load of the `s`-th block. -/
theorem xcov (c : Dev nD) (s : Fin 16) : xM.view.readCov (xlist m c) (subR s).toLoadRect = xsub m c s := by
  rw [View.readCov_eq_canon']
  funext j
  rw [xlist_canon]
  rfl

theorem v131_eq (c : Dev nD) : stretch1.sl.v131 m c = xsub m c 0 := xcov m c 0
theorem v156_eq (c : Dev nD) : stretch1.sl.v156 m c = xsub m c 1 := xcov m c 1
theorem v186_eq (c : Dev nD) : stretch1.sl.v186 m c = xsub m c 2 := xcov m c 2
theorem v212_eq (c : Dev nD) : stretch1.sl.v212 m c = xsub m c 3 := xcov m c 3
theorem v316_eq (c : Dev nD) : stretch1.sl.v316 m c = xsub m c 4 := xcov m c 4
theorem v342_eq (c : Dev nD) : stretch1.sl.v342 m c = xsub m c 5 := xcov m c 5
theorem v446_eq (c : Dev nD) : stretch1.sl.v446 m c = xsub m c 6 := xcov m c 6
theorem v472_eq (c : Dev nD) : stretch1.sl.v472 m c = xsub m c 7 := xcov m c 7
theorem v576_eq (c : Dev nD) : stretch1.sl.v576 m c = xsub m c 8 := xcov m c 8
theorem v602_eq (c : Dev nD) : stretch1.sl.v602 m c = xsub m c 9 := xcov m c 9
theorem v706_eq (c : Dev nD) : stretch1.sl.v706 m c = xsub m c 10 := xcov m c 10
theorem v732_eq (c : Dev nD) : stretch1.sl.v732 m c = xsub m c 11 := xcov m c 11
theorem v762_eq (c : Dev nD) : stretch1.sl.v762 m c = xsub m c 12 := xcov m c 12
theorem v788_eq (c : Dev nD) : stretch1.sl.v788 m c = xsub m c 13 := xcov m c 13
theorem v818_eq (c : Dev nD) : stretch1.sl.v818 m c = xsub m c 14 := xcov m c 14
theorem v844_eq (c : Dev nD) : stretch1.sl.v844 m c = xsub m c 15 := xcov m c 15

/-! The running products, block by block. -/

theorem carry0 (c : Dev nD) : stretch1.sl.r m c = carry m c 0 := congrArg k0_pay1 (v131_eq m c)
theorem carry1 (c : Dev nD) : stretch1.sl.r_3 m c = carry m c 1 := by
  show k0_pay5 (stretch1.sl.r m c) (k0_pay3 (stretch1.sl.v156 m c)) (k0_pay4 (stretch1.sl.v156 m c)) = _
  rw [pay5_eq, carry0, v156_eq]; rfl
theorem carry2 (c : Dev nD) : stretch1.sl.r_4 m c = carry m c 2 := by
  show k0_pay6 (stretch1.sl.r m c) (k0_pay3 (stretch1.sl.v156 m c)) (k0_pay4 (stretch1.sl.v156 m c)) (stretch1.sl.v186 m c) = _
  rw [pay6_eq, carry0, v156_eq, v186_eq]; rfl
theorem carry3 (c : Dev nD) : stretch1.sl.r_5 m c = carry m c 3 := by
  show k0_pay7 (stretch1.sl.r_4 m c) (stretch1.sl.v212 m c) = _
  rw [pay7_eq, carry2, v212_eq]; rfl
theorem carry4 (c : Dev nD) : stretch1.sl.r_8 m c = carry m c 4 := by
  show k0_pay12 (stretch1.sl.r_5 m c) (stretch1.sl.v316 m c) = _
  rw [pay12_eq, carry3, v316_eq]; rfl
theorem carry5 (c : Dev nD) : stretch1.sl.r_11 m c = carry m c 5 := by
  show k0_pay15 (stretch1.sl.r_8 m c) (k0_pay13 (stretch1.sl.v342 m c)) (k0_pay14 (stretch1.sl.v342 m c)) = _
  rw [pay15_eq, carry4, v342_eq]; rfl
theorem carry6 (c : Dev nD) : stretch1.sl.r_13 m c = carry m c 6 := by
  show k0_pay19 (stretch1.sl.r_11 m c) (stretch1.sl.v446 m c) = _
  rw [pay19_eq, carry5, v446_eq]; rfl
theorem carry7 (c : Dev nD) : stretch1.sl.r_14 m c = carry m c 7 := by
  show k0_pay20 (stretch1.sl.r_11 m c) (stretch1.sl.v446 m c) (stretch1.sl.v472 m c) = _
  rw [pay20_eq, carry5, v446_eq, v472_eq]; rfl
theorem carry8 (c : Dev nD) : stretch1.sl.r_18 m c = carry m c 8 := by
  show k0_pay26 (stretch1.sl.r_14 m c) (k0_pay25 (stretch1.sl.v576 m c)) = _
  rw [pay26_eq, carry7, v576_eq]; rfl
theorem carry9 (c : Dev nD) : stretch1.sl.r_19 m c = carry m c 9 := by
  show k0_pay27 (stretch1.sl.r_14 m c) (k0_pay25 (stretch1.sl.v576 m c)) (stretch1.sl.v602 m c) = _
  rw [pay27_eq, carry7, v576_eq, v602_eq]; rfl
theorem carry10 (c : Dev nD) : stretch1.sl.r_26 m c = carry m c 10 := by
  show k0_pay39 (stretch1.sl.r_19 m c) (k0_pay37 (stretch1.sl.v706 m c)) (k0_pay38 (stretch1.sl.v706 m c)) = _
  rw [pay39_eq, carry9, v706_eq]; rfl
theorem carry11 (c : Dev nD) : stretch1.sl.r_27 m c = carry m c 11 := by
  show k0_pay40 (stretch1.sl.r_19 m c) (k0_pay37 (stretch1.sl.v706 m c)) (k0_pay38 (stretch1.sl.v706 m c)) (stretch1.sl.v732 m c) = _
  rw [pay40_eq, carry9, v706_eq, v732_eq]; rfl
theorem carry12 (c : Dev nD) : stretch1.sl.r_30 m c = carry m c 12 := by
  show k0_pay44 (stretch1.sl.r_27 m c) (k0_pay42 (stretch1.sl.v762 m c)) (k0_pay43 (stretch1.sl.v762 m c)) = _
  rw [pay44_eq, carry11, v762_eq]; rfl
theorem carry13 (c : Dev nD) : stretch1.sl.r_31 m c = carry m c 13 := by
  show k0_pay45 (stretch1.sl.r_27 m c) (k0_pay42 (stretch1.sl.v762 m c)) (k0_pay43 (stretch1.sl.v762 m c)) (stretch1.sl.v788 m c) = _
  rw [pay45_eq, carry11, v762_eq, v788_eq]; rfl
theorem carry14 (c : Dev nD) : stretch1.sl.r_34 m c = carry m c 14 := by
  show k0_pay49 (stretch1.sl.r_31 m c) (k0_pay47 (stretch1.sl.v818 m c)) (k0_pay48 (stretch1.sl.v818 m c)) = _
  rw [pay49_eq, carry13, v818_eq]; rfl
theorem total_eq (c : Dev nD) : k0_pay50 (stretch1.sl.r_31 m c) (stretch1.sl.r_32 m c) (stretch1.sl.r_33 m c) (stretch1.sl.v844 m c) = tot m c := by
  show k0_pay50 (stretch1.sl.r_31 m c) (k0_pay47 (stretch1.sl.v818 m c)) (k0_pay48 (stretch1.sl.v818 m c)) (stretch1.sl.v844 m c) = _
  rw [pay50_eq, carry13, v818_eq, v844_eq]; rfl

/-- The row of totals as it stands in its buffer. -/
theorem row_writes (ft : (tM : Memref sig .tc .vmem S1x1024 .f32).view.ty.Contents (Elt F)) (v : FVec F S1x1024 .f32) (h) :
    tM.view.writes (Elt F) ft [⟨Rect.unit (s := S1x1024) ![0, 0] S1x1024.size h, v⟩] = v := by
  rw [View.writes_singleton]
  funext i
  have e : ((tM : Memref sig .tc .vmem S1x1024 .f32).view.slice (Rect.unit (s := S1x1024) ![0, 0] S1x1024.size h)).emb i = i := by
    funext a
    match a with
    | ⟨0, _⟩ => exact Fin.ext (show 0 + 1 * (i 0).val = (i 0).val by omega)
    | ⟨1, _⟩ => exact Fin.ext (show 0 + 1 * (i 1).val = (i 1).val by omega)
  have h2 := congrFun (View.read_write_univ (v := (tM : Memref sig .tc .vmem S1x1024 .f32).view.slice (Rect.unit (s := S1x1024) ![0, 0] S1x1024.size h)) (Val := Elt F) ft v) i
  rw [View.read_apply, e] at h2
  exact (cast_eq _ _).symm.trans h2

end Cert.Cumprod
-- ==== Proof.Run2.lean ====
/-
The second stretch of the run: the seven copies, the other eight scans, and the waits for the copies.
-/
module
public import proofs.«01_k».proof.Proof.Send
public import proofs.«01_k».proof.Proof.Vals
public import proofs.«01_k».proof.Proof.Pays
@[expose] public section
noncomputable section
namespace Cert.Cumprod
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)

theorem stored_row (c : Dev nD) (ft : Buf (Elt F) (tM.view.loc (c : Thread nD τ))) :
    (tM.view.loc (c : Thread nD τ) ↦[Finset.univ]{fullShare} (tM.view.writes (Elt F) ft
      [⟨Rect.unit (s := S1x1024) ![0, 0] S1x1024.size inb_S1x1024_S1x1024_0_0,
        k0_pay50 (stretch1.sl.r_31 m c) (stretch1.sl.r_32 m c) (stretch1.sl.r_33 m c) (stretch1.sl.v844 m c)⟩]) : sProp 𝕄) ⊢ held c tM (tot m c) :=
  Entails.of_eq (by rw [total_eq, row_writes])

attribute [local sl_rounds] duties_bar duties_dma amount_bar amount_dma expect_bar expect_dma payload_bar payload_send payload_recv barduty

set_option maxHeartbeats 8000000 in
set_option sl_exec.dmaWindow true in
def stretch2 (K : Dev nD × Fin 15 → ℕ) (c : Dev nD) (W : Waits sig Unit) (Q : PUnit → sProp 𝕄)
    (fo : Buf (Elt F) (oM.view.loc (c : Thread nD τ)))
    (fx : Buf (Elt F) (xM.view.loc (c : Thread nD τ))) (fl : Buf (Elt F) (lM.view.loc (c : Thread nD τ)))
    (fs : Buf (Elt F) (sM.view.loc (c : Thread nD τ))) (ft : Buf (Elt F) (tM.view.loc (c : Thread nD τ))) :
    Σ' (G : Prop), G → (stretch1 m K c W Q fo fx fl fs ft).1 := by
  sl_stretch
  sl_resume
  ihave HT := (stored_row m c ft) $$ HT
  icases (row_shares c _).1 $$ HT with ⟨T0, T1, T2, T3, T4, T5, T6⟩
  icases (Entails.of_eq (bigSep7 _)) $$ Hbar_pay1 with ⟨B0, B1, B2, B3, B4, B5, B6⟩
  have hO : O₁ c = 0 + tr c 6 + tr c 5 + tr c 4 + tr c 3 + tr c 2 + tr c 1 + tr c 0 := by rw [zero_add]; rfl
  rw [hO]
  clear hO
  have h9 := dev9_eq c
  have h10 := dev10_eq c
  have h11 := dev11_eq c
  have h12 := dev12_eq c
  have h13 := dev13_eq c
  have h14 := dev14_eq c
  sl_exec_parts
  iapply (send_at m K c 0 (n := up c 0) rfl 0 rfl _ _ rfl _) $$ IS0 IP0 RS0 RP0 HO T0 B0 TS0 TR0
  iintro ⟨CS0, HO⟩
  sl_exec_parts
  iapply (send_at m K c 1 (n := up c 1) rfl 1 rfl _ _ rfl _) $$ IS1 IP1 RS1 RP1 HO T1 B1 TS1 TR1
  iintro ⟨CS1, HO⟩
  sl_exec_parts
  iapply (send_at m K c 2 (n := up c 2) rfl 2 rfl _ _ rfl _) $$ IS2 IP2 RS2 RP2 HO T2 B2 TS2 TR2
  iintro ⟨CS2, HO⟩
  sl_exec_parts
  iapply (send_at m K c 3 (n := up c 3) rfl 3 rfl _ _ rfl _) $$ IS3 IP3 RS3 RP3 HO T3 B3 TS3 TR3
  iintro ⟨CS3, HO⟩
  sl_exec_parts
  iapply (send_at m K c 4 (n := up c 4) rfl 4 rfl _ _ rfl _) $$ IS4 IP4 RS4 RP4 HO T4 B4 TS4 TR4
  iintro ⟨CS4, HO⟩
  sl_exec_parts
  iapply (send_at m K c 5 (n := up c 5) rfl 5 rfl _ _ rfl _) $$ IS5 IP5 RS5 RP5 HO T5 B5 TS5 TR5
  iintro ⟨CS5, HO⟩
  sl_exec_parts
  iapply (send_at m K c 6 (n := up c 6) rfl 6 rfl _ _ rfl _) $$ IS6 IP6 RS6 RP6 HO T6 B6 TS6 TR6
  iintro ⟨CS6, HO⟩
  sl_exec_parts
  ihave HL2 := (recv_all m c) $$ PR0_pay1 PR1_pay1 PR2_pay1 PR3_pay1 PR4_pay1 PR5_pay1 PR6_pay1
  ihave HT := (send_all m c) $$ PS0_pay1 PS1_pay1 PS2_pay1 PS3_pay1 PS4_pay1 PS5_pay1 PS6_pay1
  sl_seam

end Cert.Cumprod
-- ==== Proof.Run3.lean ====
/-
The third stretch of the run: the row of earlier products, the scaled blocks and their stores.
-/
module
public import proofs.«01_k».proof.Proof.Run2
@[expose] public section
noncomputable section
namespace Cert.Cumprod
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)

attribute [local sl_rounds] duties_bar duties_dma amount_bar amount_dma expect_bar expect_dma payload_bar payload_send payload_recv barduty

set_option maxHeartbeats 8000000 in
set_option sl_exec.dmaWindow true in
def stretch3 (K : Dev nD × Fin 15 → ℕ) (c : Dev nD) (W : Waits sig Unit) (Q : PUnit → sProp 𝕄)
    (fo : Buf (Elt F) (oM.view.loc (c : Thread nD τ)))
    (fx : Buf (Elt F) (xM.view.loc (c : Thread nD τ))) (fl : Buf (Elt F) (lM.view.loc (c : Thread nD τ)))
    (fs : Buf (Elt F) (sM.view.loc (c : Thread nD τ))) (ft : Buf (Elt F) (tM.view.loc (c : Thread nD τ))) :
    Σ' (G : Prop), G → (stretch2 m K c W Q fo fx fl fs ft).1 := by
  sl_stretch
  sl_resume
  set_option sl_exec.stopBefore "k0_part43" in
  sl_exec_parts
  sl_seam

end Cert.Cumprod
-- ==== Proof.Vals2.lean ====
/-
The values of the rest of the body: every block of scans, every coefficient, and what each transfer carries out.
-/
module

public import proofs.«01_k».proof.Proof.Run3
public import proofs.«01_k».proof.Proof.Vals

@[expose] public section

noncomputable section

namespace Cert.Cumprod

open Cert.KernelIdeal Cert.KernelIdeal.Gen
open Idealize.ShloMosaic
open Idealize.ShloMosaic.TcCoe

variable {F : FTy → Type} [FloatOps F]
variable (m : (ℓ : Loc nD τ sig) → Buf (Elt F) ℓ)

/-! ## Sixteen blocks under each other -/

/-- Row `i` lies in this block. -/
def blkOf (i : S4096x1024.Idx) : Fin 16 := ⟨(i 0).val / 256, by have h : (i 0).val < 4096 := (i 0).isLt; omega⟩
/-- Its place within the block. -/
def inBlk (i : S4096x1024.Idx) : S256x1024.Idx := fun a => match a with
  | ⟨0, _⟩ => (⟨(i 0).val % 256, Nat.mod_lt _ (by decide)⟩ : Fin 256)
  | ⟨1, _⟩ => (⟨(i 1).val, (i 1).isLt⟩ : Fin 1024)

/-- The blocks stacked. -/
def stack {e : EltTy} (g : Fin 16 → S256x1024.Idx → Elt F e) : S4096x1024.Idx → Elt F e := fun i => g (blkOf i) (inBlk i)

theorem stack_emb {e : EltTy} (g : Fin 16 → S256x1024.Idx → Elt F e) (s : Fin 16) (x : S256x1024.Idx) :
    stack g ((subR s).emb x) = g s x := by
  have h0 : (((subR s).emb x) 0).val = 256 * s.val + 1 * (x 0).val := rfl
  have h1 : (((subR s).emb x) 1).val = 0 + 1 * (x 1).val := rfl
  have hx : (x 0).val < 256 := (x 0).isLt
  have hs : blkOf ((subR s).emb x) = s := Fin.ext (by show (((subR s).emb x) 0).val / 256 = s.val; omega)
  have hi : inBlk ((subR s).emb x) = x := by
    funext a
    match a with
    | ⟨0, _⟩ => exact Fin.ext (show (((subR s).emb x) 0).val % 256 = (x 0).val by omega)
    | ⟨1, _⟩ => exact Fin.ext (show (((subR s).emb x) 1).val = (x 1).val by omega)
  unfold stack
  rw [hs, hi]

/-- The writes of the sixteen blocks in order, the last one first. -/
def blocks {e : EltTy} (g : Fin 16 → S256x1024.Idx → Elt F e) : List (View.Piece (Elt F) S4096x1024 e) :=
  [⟨subR 15, g 15⟩, ⟨subR 14, g 14⟩, ⟨subR 13, g 13⟩, ⟨subR 12, g 12⟩, ⟨subR 11, g 11⟩, ⟨subR 10, g 10⟩, ⟨subR 9, g 9⟩,
   ⟨subR 8, g 8⟩, ⟨subR 7, g 7⟩, ⟨subR 6, g 6⟩, ⟨subR 5, g 5⟩, ⟨subR 4, g 4⟩, ⟨subR 3, g 3⟩, ⟨subR 2, g 2⟩, ⟨subR 1, g 1⟩,
   ⟨subR 0, g 0⟩]

theorem blocks_cover {e : EltTy} (g : Fin 16 → S256x1024.Idx → Elt F e) (y : S4096x1024.Idx) :
    ∃ p ∈ blocks g, y ∈ p.1.set := View.cover_of_tiled (blocks g) ![256, 1024] rfl y

theorem blocks_canon {e : EltTy} (g : Fin 16 → S256x1024.Idx → Elt F e) (y : S4096x1024.Idx) :
    View.canon (blocks g) y = stack g y := by
  refine View.canon_apply_of_pieces (stack g) (blocks g) ?_ y (blocks_cover g y)
  intro p hp x
  simp only [blocks, List.mem_cons, List.not_mem_nil, or_false] at hp
  rcases hp with rfl | rfl | rfl | rfl | rfl | rfl | rfl | rfl | rfl | rfl | rfl | rfl | rfl | rfl | rfl | rfl <;>
    exact (stack_emb g _ x).symm

/-- A load of the `s`-th scan. -/
theorem blocks_cov (g : Fin 16 → S256x1024.Idx → Elt F .bf16) (s : Fin 16) :
    lM.view.readCov (blocks g) (subR s).toLoadRect = g s := by
  rw [View.readCov_eq_canon']
  funext j
  rw [blocks_canon]
  exact stack_emb g s j

/-- The `s`-th block's scan. -/
def scanOf (c : Dev nD) (s : Fin 16) : FVec F S256x1024 .bf16 := k0_pay10 (xsub m c s)

theorem v999_eq (c : Dev nD) : stretch2.sl.v999 m c = xsub m c 8 := xcov m c 8
theorem v1036_eq (c : Dev nD) : stretch2.sl.v1036 m c = xsub m c 9 := xcov m c 9
theorem v1073_eq (c : Dev nD) : stretch2.sl.v1073 m c = xsub m c 10 := xcov m c 10
theorem v1110_eq (c : Dev nD) : stretch2.sl.v1110 m c = xsub m c 11 := xcov m c 11
theorem v1147_eq (c : Dev nD) : stretch2.sl.v1147 m c = xsub m c 12 := xcov m c 12
theorem v1184_eq (c : Dev nD) : stretch2.sl.v1184 m c = xsub m c 13 := xcov m c 13
theorem v1221_eq (c : Dev nD) : stretch2.sl.v1221 m c = xsub m c 14 := xcov m c 14
theorem v1258_eq (c : Dev nD) : stretch2.sl.v1258 m c = xsub m c 15 := xcov m c 15

theorem scan0 (c : Dev nD) : k0_pay9 (stretch1.sl.r_6 m c) stretch1.sl.cst_117 = scanOf m c 0 :=
  (scan9_eq (stretch1.sl.v131 m c)).trans (congrArg k0_pay10 (v131_eq m c))
theorem scan1 (c : Dev nD) : k0_pay11 (stretch1.sl.r_7 m c) = scanOf m c 1 :=
  (scan11_eq (stretch1.sl.v156 m c)).trans (congrArg k0_pay10 (v156_eq m c))
theorem scan2 (c : Dev nD) : k0_pay17 (stretch1.sl.r_12 m c) = scanOf m c 2 :=
  (scan17_eq (stretch1.sl.v186 m c)).trans (congrArg k0_pay10 (v186_eq m c))
theorem scan3 (c : Dev nD) : k0_pay18 (stretch1.sl.v212 m c) = scanOf m c 3 :=
  (scan18_eq (stretch1.sl.v212 m c)).trans (congrArg k0_pay10 (v212_eq m c))
theorem scan4 (c : Dev nD) : k0_pay21 (stretch1.sl.v316 m c) = scanOf m c 4 :=
  (scan21_eq (stretch1.sl.v316 m c)).trans (congrArg k0_pay10 (v316_eq m c))
theorem scan5 (c : Dev nD) : k0_pay24 (stretch1.sl.r_15 m c) (stretch1.sl.r_16 m c) = scanOf m c 5 :=
  (scan24_eq (stretch1.sl.v342 m c)).trans (congrArg k0_pay10 (v342_eq m c))
theorem scan6 (c : Dev nD) : k0_pay31 (stretch1.sl.r_20 m c) k0_pay29 (stretch1.sl.r_21 m c) = scanOf m c 6 :=
  (scan31_eq (stretch1.sl.v446 m c)).trans (congrArg k0_pay10 (v446_eq m c))
theorem scan7 (c : Dev nD) : k0_pay35 (stretch1.sl.r_22 m c) k0_pay33 (stretch1.sl.r_23 m c) = scanOf m c 7 :=
  (scan35_eq (stretch1.sl.v472 m c)).trans (congrArg k0_pay10 (v472_eq m c))
theorem scan8 (c : Dev nD) : k0_pay53 (stretch2.sl.r m c) k0_pay52 = scanOf m c 8 :=
  (scan53_eq (stretch2.sl.v999 m c)).trans (congrArg k0_pay10 (v999_eq m c))
theorem scan9 (c : Dev nD) : k0_pay56 (stretch2.sl.r_1 m c) k0_pay55 = scanOf m c 9 :=
  (scan56_eq (stretch2.sl.v1036 m c)).trans (congrArg k0_pay10 (v1036_eq m c))
theorem scan10 (c : Dev nD) : k0_pay58 (stretch2.sl.r_2 m c) = scanOf m c 10 :=
  (scan58_eq (stretch2.sl.v1073 m c)).trans (congrArg k0_pay10 (v1073_eq m c))
theorem scan11 (c : Dev nD) : k0_pay59 (stretch2.sl.v1110 m c) = scanOf m c 11 :=
  (scan59_eq (stretch2.sl.v1110 m c)).trans (congrArg k0_pay10 (v1110_eq m c))
theorem scan12 (c : Dev nD) : k0_pay61 (stretch2.sl.v1147 m c) k0_pay60 = scanOf m c 12 :=
  (scan61_eq (stretch2.sl.v1147 m c)).trans (congrArg k0_pay10 (v1147_eq m c))
theorem scan13 (c : Dev nD) : k0_pay64 (stretch2.sl.r_3 m c) k0_pay63 = scanOf m c 13 :=
  (scan64_eq (stretch2.sl.v1184 m c)).trans (congrArg k0_pay10 (v1184_eq m c))
theorem scan14 (c : Dev nD) : k0_pay67 (stretch2.sl.r_4 m c) k0_pay66 = scanOf m c 14 :=
  (scan67_eq (stretch2.sl.v1221 m c)).trans (congrArg k0_pay10 (v1221_eq m c))
theorem scan15 (c : Dev nD) : k0_pay70 (stretch2.sl.r_5 m c) k0_pay69 = scanOf m c 15 :=
  (scan70_eq (stretch2.sl.v1258 m c)).trans (congrArg k0_pay10 (v1258_eq m c))

/-- What the scans' buffer was written. -/
theorem scans_eq (c : Dev nD) : stretch2.sl.HB_16 m c = blocks (scanOf m c) := by
  have e : stretch2.sl.HB_16 m c =
      [⟨subR 15, k0_pay70 (stretch2.sl.r_5 m c) k0_pay69⟩, ⟨subR 14, k0_pay67 (stretch2.sl.r_4 m c) k0_pay66⟩,
       ⟨subR 13, k0_pay64 (stretch2.sl.r_3 m c) k0_pay63⟩, ⟨subR 12, k0_pay61 (stretch2.sl.v1147 m c) k0_pay60⟩,
       ⟨subR 11, k0_pay59 (stretch2.sl.v1110 m c)⟩, ⟨subR 10, k0_pay58 (stretch2.sl.r_2 m c)⟩,
       ⟨subR 9, k0_pay56 (stretch2.sl.r_1 m c) k0_pay55⟩, ⟨subR 8, k0_pay53 (stretch2.sl.r m c) k0_pay52⟩,
       ⟨subR 7, k0_pay35 (stretch1.sl.r_22 m c) k0_pay33 (stretch1.sl.r_23 m c)⟩,
       ⟨subR 6, k0_pay31 (stretch1.sl.r_20 m c) k0_pay29 (stretch1.sl.r_21 m c)⟩,
       ⟨subR 5, k0_pay24 (stretch1.sl.r_15 m c) (stretch1.sl.r_16 m c)⟩, ⟨subR 4, k0_pay21 (stretch1.sl.v316 m c)⟩,
       ⟨subR 3, k0_pay18 (stretch1.sl.v212 m c)⟩, ⟨subR 2, k0_pay17 (stretch1.sl.r_12 m c)⟩,
       ⟨subR 1, k0_pay11 (stretch1.sl.r_7 m c)⟩, ⟨subR 0, k0_pay9 (stretch1.sl.r_6 m c) stretch1.sl.cst_117⟩] := rfl
  rw [e, scan0, scan1, scan2, scan3, scan4, scan5, scan6, scan7, scan8, scan9, scan10, scan11, scan12, scan13, scan14, scan15]
  rfl

/-- A load of the `s`-th scan, as the run names it. -/
theorem scan_cov (c : Dev nD) (s : Fin 16) : lM.view.readCov (stretch2.sl.HB_16 m c) (subR s).toLoadRect = scanOf m c s := by
  rw [scans_eq]
  exact blocks_cov _ s

/-! ## The coefficients -/

/-- The landed rows, as the run loads them. -/
def landed (c : Dev nD) : FVec F S7x1024 .f32 :=
  View.readAt (Elt F) cM.view (Rect.unit (s := S7x1024) ![0, 0] S7x1024.size inb_S7x1024_S7x1024_0_0).toLoadRect (lrows m c)

/-- The product of all that the earlier devices hold. -/
def before (c : Dev nD) : FVec F S1x1024 .f32 := pre (stretch1.sl.v2 c) (landed m c)

/-- What the `s`-th block's scan is scaled by. -/
def coef (c : Dev nD) (s : Fin 16) : FVec F S1x1024 .f32 := match s with
  | ⟨0, _⟩ => before m c
  | ⟨n + 1, _⟩ => mulf (carry m c n) (before m c)

/-- The `s`-th block of the result. -/
def outBlk (c : Dev nD) (s : Fin 16) : FVec F S256x1024 .bf16 := scale (coef m c s) (scanOf m c s)

/-! ## What the transfers carry -/

/-- What a transfer out of a staging slot reads, when the slot's last write is the latest of all. -/
theorem slot_read (fs : (sM : Memref sig .tc .vmem S2x256x1024 .bf16).view.ty.Contents (Elt F))
    (L : List (View.Piece (Elt F) S2x256x1024 .bf16)) (a : FVec F S1x1024 .f32) (b : FVec F S256x1024 .bf16)
    (o : Fin S2x256x1024.rank → ℕ) (h : ∀ a, o a + S1x256x1024.size a ≤ S2x256x1024.size a) (h') :
    ((sM.slice (Rect.unit (s := S2x256x1024) o S1x256x1024.size h) h').squeeze S256x1024 squeezes_S1x256x1024_S256x1024).view.read (Elt F)
      (sM.view.writes (Elt F) fs (⟨Rect.unit (s := S2x256x1024) o S1x256x1024.size h, slab a b⟩ :: L)) = scale a b := by
  rw [Memref.read_squeeze_slice sM _ h' squeezes_S1x256x1024_S256x1024 (show S1x256x1024.ShapeCasts S256x1024 by decide), View.writes_cons]
  refine (congrArg (fun w => shapeCast S256x1024 w _)
    (View.read_write_univ (v := (sM : Memref sig .tc .vmem S2x256x1024 .bf16).view.slice (Rect.unit (s := S2x256x1024) o S1x256x1024.size h)) (Val := Elt F)
      (sM.view.writes (Elt F) fs L) (slab a b))).trans ?_
  exact shapeCast_shapeCast (scale a b) _ _

/-- The same, for the `s`-th block as the body stores it. -/
theorem carried (c : Dev nD) (s : Fin 16) (fs : (sM : Memref sig .tc .vmem S2x256x1024 .bf16).view.ty.Contents (Elt F))
    (L : List (View.Piece (Elt F) S2x256x1024 .bf16)) (a : FVec F S1x1024 .f32) (b : FVec F S256x1024 .bf16)
    (o : Fin S2x256x1024.rank → ℕ) (h : ∀ a, o a + S1x256x1024.size a ≤ S2x256x1024.size a) (h')
    (ha : a = coef m c s) (hb : b = scanOf m c s) :
    ((sM.slice (Rect.unit (s := S2x256x1024) o S1x256x1024.size h) h').squeeze S256x1024 squeezes_S1x256x1024_S256x1024).view.read (Elt F)
      (sM.view.writes (Elt F) fs (⟨Rect.unit (s := S2x256x1024) o S1x256x1024.size h, slab a b⟩ :: L)) = outBlk m c s := by
  rw [slot_read, ha, hb]; rfl

/-! The coefficients as the run names them. -/

theorem coef2_run (c : Dev nD) : stretch3.sl.r_3 m c = coef m c 2 :=
  (coef75_eq (stretch1.sl.r_3 m c) (stretch1.sl.v2 c) (landed m c)).trans (congrArg (mulf · (before m c)) (carry1 m c))
theorem coef3_run (c : Dev nD) : stretch3.sl.r_4 m c = coef m c 3 :=
  (coef76_eq (stretch1.sl.r_4 m c) (stretch1.sl.v2 c) (landed m c)).trans (congrArg (mulf · (before m c)) (carry2 m c))
theorem coef4_run (c : Dev nD) : stretch3.sl.r_5 m c = coef m c 4 :=
  (coef77_eq (stretch1.sl.r_5 m c) (stretch1.sl.v2 c) (landed m c)).trans (congrArg (mulf · (before m c)) (carry3 m c))
theorem coef5_run (c : Dev nD) : stretch3.sl.r_6 m c = coef m c 5 :=
  (coef78_eq (stretch1.sl.r_8 m c) (stretch1.sl.v2 c) (landed m c)).trans (congrArg (mulf · (before m c)) (carry4 m c))
theorem coef6_run (c : Dev nD) : stretch3.sl.r_7 m c = coef m c 6 :=
  (coef79_eq (stretch1.sl.r_11 m c) (stretch1.sl.v2 c) (landed m c)).trans (congrArg (mulf · (before m c)) (carry5 m c))
theorem coef7_run (c : Dev nD) : stretch3.sl.r_8 m c = coef m c 7 :=
  (coef80_eq (stretch1.sl.r_13 m c) (stretch1.sl.v2 c) (landed m c)).trans (congrArg (mulf · (before m c)) (carry6 m c))
theorem coef8_run (c : Dev nD) : stretch3.sl.r_9 m c = coef m c 8 :=
  (coef81_eq (stretch1.sl.r_14 m c) (stretch1.sl.v2 c) (landed m c)).trans (congrArg (mulf · (before m c)) (carry7 m c))
theorem coef9_run (c : Dev nD) : stretch3.sl.r_10 m c = coef m c 9 :=
  (coef82_eq (stretch1.sl.r_18 m c) (stretch1.sl.v2 c) (landed m c)).trans (congrArg (mulf · (before m c)) (carry8 m c))
theorem coef10_run (c : Dev nD) : stretch3.sl.r_11 m c = coef m c 10 :=
  (coef83_eq (stretch1.sl.r_19 m c) (stretch1.sl.v2 c) (landed m c)).trans (congrArg (mulf · (before m c)) (carry9 m c))
theorem coef11_run (c : Dev nD) : stretch3.sl.r_12 m c = coef m c 11 :=
  (coef84_eq (stretch1.sl.r_26 m c) (stretch1.sl.v2 c) (landed m c)).trans (congrArg (mulf · (before m c)) (carry10 m c))
theorem coef12_run (c : Dev nD) : stretch3.sl.r_13 m c = coef m c 12 :=
  (coef85_eq (stretch1.sl.r_27 m c) (stretch1.sl.v2 c) (landed m c)).trans (congrArg (mulf · (before m c)) (carry11 m c))
theorem coef13_run (c : Dev nD) : stretch3.sl.r_14 m c = coef m c 13 :=
  (coef86_eq (stretch1.sl.r_30 m c) (stretch1.sl.v2 c) (landed m c)).trans (congrArg (mulf · (before m c)) (carry12 m c))
theorem coef14_run (c : Dev nD) : stretch3.sl.r_15 m c = coef m c 14 :=
  (coef87_eq (stretch1.sl.r_31 m c) (stretch1.sl.v2 c) (landed m c)).trans (congrArg (mulf · (before m c)) (carry13 m c))
theorem coef15_run (c : Dev nD) : stretch3.sl.r_16 m c = coef m c 15 :=
  (coef88_eq (stretch1.sl.r_34 m c) (stretch1.sl.v2 c) (landed m c)).trans (congrArg (mulf · (before m c)) (carry14 m c))
theorem coef1_run (c : Dev nD) : mulf (stretch1.sl.r m c) (pre (stretch1.sl.v2 c) (landed m c)) = coef m c 1 :=
  congrArg (mulf · (before m c)) (carry0 m c)

/-! The transfers as the run names them. -/

section
variable (c : Dev nD) (fs : (sM : Memref sig .tc .vmem S2x256x1024 .bf16).view.ty.Contents (Elt F))
theorem out0_run : stretch3.sl.dma4 m c fs = outBlk m c 0 := carried m c 0 fs _ _ _ _ _ _ rfl (scan_cov m c 0)
theorem out1_run : stretch3.sl.dma7 m c fs = outBlk m c 1 := carried m c 1 fs _ _ _ _ _ _ (coef1_run m c) (scan_cov m c 1)
theorem out2_run : stretch3.sl.dma10 m c fs = outBlk m c 2 := carried m c 2 fs _ _ _ _ _ _ (coef2_run m c) (scan_cov m c 2)
theorem out3_run : stretch3.sl.dma13 m c fs = outBlk m c 3 := carried m c 3 fs _ _ _ _ _ _ (coef3_run m c) (scan_cov m c 3)
theorem out4_run : stretch3.sl.dma16 m c fs = outBlk m c 4 := carried m c 4 fs _ _ _ _ _ _ (coef4_run m c) (scan_cov m c 4)
theorem out5_run : stretch3.sl.dma19 m c fs = outBlk m c 5 := carried m c 5 fs _ _ _ _ _ _ (coef5_run m c) (scan_cov m c 5)
theorem out6_run : stretch3.sl.dma22 m c fs = outBlk m c 6 := carried m c 6 fs _ _ _ _ _ _ (coef6_run m c) (scan_cov m c 6)
theorem out7_run : stretch3.sl.dma25 m c fs = outBlk m c 7 := carried m c 7 fs _ _ _ _ _ _ (coef7_run m c) (scan_cov m c 7)
theorem out8_run : stretch3.sl.dma28 m c fs = outBlk m c 8 := carried m c 8 fs _ _ _ _ _ _ (coef8_run m c) (scan_cov m c 8)
theorem out9_run : stretch3.sl.dma31 m c fs = outBlk m c 9 := carried m c 9 fs _ _ _ _ _ _ (coef9_run m c) (scan_cov m c 9)
theorem out10_run : stretch3.sl.dma34 m c fs = outBlk m c 10 := carried m c 10 fs _ _ _ _ _ _ (coef10_run m c) (scan_cov m c 10)
theorem out11_run : stretch3.sl.dma37 m c fs = outBlk m c 11 := carried m c 11 fs _ _ _ _ _ _ (coef11_run m c) (scan_cov m c 11)
theorem out12_run : stretch3.sl.dma40 m c fs = outBlk m c 12 := carried m c 12 fs _ _ _ _ _ _ (coef12_run m c) (scan_cov m c 12)
theorem out13_run : stretch3.sl.dma43 m c fs = outBlk m c 13 := carried m c 13 fs _ _ _ _ _ _ (coef13_run m c) (scan_cov m c 13)
end

end Cert.Cumprod
-- ==== Proof.Run4.lean ====
module
public import proofs.«01_k».proof.Proof.Vals2
@[expose] public section
noncomputable section
namespace Cert.Cumprod
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig Unit (Elt F) ℕ UU ℕ
variable (m : (ℓ : Loc nD τ sig) → Buf (Elt F) ℓ)

/-- A cell that has been waited on closes: its counter is the device's again. -/
theorem cell_zero (κ : ℕ) (g : GSem nD τ sig) :
    (cellInv ER (Rd m) κ g : sProp 𝕄) ⊢ atPos ER g (0 + 1) ∅ 0 -∗ |={Set.univ}=> semVal g 0 := by
  iintro HI HA
  iapply (Rounds.cell_close ER (Rd m) (Set.mem_univ κ) (fun h => h) (R := 0 + 1) (duties_later m g))
  isplitl [HI] <;> iassumption

/-- Writes that cover a whole buffer leave it holding them. -/
theorem whole_writes {sp : Space} {S : Shape} {e : EltTy} (M : Memref sig .tc sp S e) (f : M.view.ty.Contents (Elt F))
    (L : List (View.Piece (Elt F) S e)) (G : S.Idx → Elt F e) (hc : ∀ y, ∃ p ∈ L, y ∈ p.1.set) (hG : ∀ y, View.canon L y = G y) :
    M.view.read (Elt F) (M.view.writes (Elt F) f L) = G :=
  (View.read_writes_eq_canon M.view f L hc).trans (funext hG)

theorem read_out (f : (oM : Memref sig .tc .hbm S4096x1024 .bf16).view.ty.Contents (Elt F)) :
    (oM : Memref sig .tc .hbm S4096x1024 .bf16).view.read (Elt F) f = f := rfl

/-- The sixteen blocks written into the result leave it stacked. -/
theorem blocks_writes (fo : (oM : Memref sig .tc .hbm S4096x1024 .bf16).view.ty.Contents (Elt F)) (L : List (View.Piece (Elt F) S4096x1024 .bf16))
    (v : FVec F S4096x1024 .bf16) (hc : ∀ y, ∃ p ∈ L, y ∈ p.1.set) (hG : ∀ y, View.canon L y = v y) :
    (oM : Memref sig .tc .hbm S4096x1024 .bf16).view.writes (Elt F) fo L = v := by
  rw [← read_out ((oM : Memref sig .tc .hbm S4096x1024 .bf16).view.writes (Elt F) fo L)]
  exact whole_writes oM fo L v hc hG

/-- The writes of the result, the last one first, as the run names them. -/
abbrev outList (c : Dev nD) (fs : Buf (Elt F) (sM.view.loc (c : Thread nD τ))) (d14 d15 : S256x1024.Idx → Elt F .bf16) :
    List (View.Piece (Elt F) S4096x1024 .bf16) :=
  [⟨subR 15, d15⟩, ⟨subR 14, d14⟩, ⟨subR 13, stretch3.sl.dma43 m c fs⟩, ⟨subR 12, stretch3.sl.dma40 m c fs⟩,
   ⟨subR 11, stretch3.sl.dma37 m c fs⟩, ⟨subR 10, stretch3.sl.dma34 m c fs⟩, ⟨subR 9, stretch3.sl.dma31 m c fs⟩,
   ⟨subR 8, stretch3.sl.dma28 m c fs⟩, ⟨subR 7, stretch3.sl.dma25 m c fs⟩, ⟨subR 6, stretch3.sl.dma22 m c fs⟩,
   ⟨subR 5, stretch3.sl.dma19 m c fs⟩, ⟨subR 4, stretch3.sl.dma16 m c fs⟩, ⟨subR 3, stretch3.sl.dma13 m c fs⟩,
   ⟨subR 2, stretch3.sl.dma10 m c fs⟩, ⟨subR 1, stretch3.sl.dma7 m c fs⟩, ⟨subR 0, stretch3.sl.dma4 m c fs⟩]

theorem outList_eq (c : Dev nD) (fs : Buf (Elt F) (sM.view.loc (c : Thread nD τ)))
    (d14 d15 : S256x1024.Idx → Elt F .bf16) (h14 : d14 = outBlk m c 14) (h15 : d15 = outBlk m c 15) :
    outList m c fs d14 d15 = blocks (outBlk m c) := by
  unfold outList
  rw [h14, h15, out0_run, out1_run, out2_run, out3_run, out4_run, out5_run, out6_run, out7_run, out8_run, out9_run, out10_run,
    out11_run, out12_run, out13_run]
  rfl

/-- What the device's result is. -/
def outv (c : Dev nD) : FVec F S4096x1024 .bf16 := stack (F := F) (e := .bf16) (outBlk m c)

theorem out_rows (c : Dev nD) (fo : Buf (Elt F) (oM.view.loc (c : Thread nD τ))) (fs : Buf (Elt F) (sM.view.loc (c : Thread nD τ)))
    (d14 d15 : S256x1024.Idx → Elt F .bf16) (h14 : d14 = outBlk m c 14) (h15 : d15 = outBlk m c 15) :
    (held c oM (oM.view.writes (Elt F) fo (outList m c fs d14 d15)) : sProp 𝕄) ⊢ held c oM (outv m c) := by
  rw [outList_eq m c fs d14 d15 h14 h15]
  exact Entails.of_eq (congrArg (held c oM) (blocks_writes fo _ (outv m c) (blocks_cover (F := F) (e := .bf16) (outBlk m c)) (blocks_canon (F := F) (e := .bf16) (outBlk m c))))

/-- What a device's body ends with: every semaphore's counter at zero, what it was given, its result, and the scratch
    buffers at some contents. -/
def runPost (c : Dev nD) : sProp 𝕄 :=
  iprop((semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0)
    ∗ (semVal (sendCell c 0) 0 ∗ semVal (sendCell c 1) 0 ∗ semVal (sendCell c 2) 0 ∗ semVal (sendCell c 3) 0 ∗ semVal (sendCell c 4) 0
      ∗ semVal (sendCell c 5) 0 ∗ semVal (sendCell c 6) 0)
    ∗ (semVal (recvCell c 0) 0 ∗ semVal (recvCell c 1) 0 ∗ semVal (recvCell c 2) 0 ∗ semVal (recvCell c 3) 0 ∗ semVal (recvCell c 4) 0
      ∗ semVal (recvCell c 5) 0 ∗ semVal (recvCell c 6) 0)
    ∗ semVal (barCell c) 0
    ∗ (held c aM (m ((c : Thread nD τ).loc main_arg0)) ∗ held c oM (outv m c))
    ∗ ((∃ f, held c xM f) ∗ (∃ f, held c lM f) ∗ (∃ f, held c sM f) ∗ (∃ f, held c tM f) ∗ (∃ f, held c cM f))
    ∗ ∃ W', owes (c : Thread nD τ) 0 W')

attribute [local sl_rounds] duties_bar duties_dma amount_bar amount_dma expect_bar expect_dma payload_bar payload_send payload_recv barduty

set_option maxHeartbeats 8000000 in
set_option sl_exec.dmaWindow true in
theorem run_body (K : Dev nD × Fin 15 → ℕ) (c : Dev nD) (W : Waits sig Unit)
    (fo : Buf (Elt F) (oM.view.loc (c : Thread nD τ)))
    (fx : Buf (Elt F) (xM.view.loc (c : Thread nD τ))) (fl : Buf (Elt F) (lM.view.loc (c : Thread nD τ)))
    (fs : Buf (Elt F) (sM.view.loc (c : Thread nD τ))) (ft : Buf (Elt F) (tM.view.loc (c : Thread nD τ))) :
    runPre m K c W fo fx fl fs ft
      ⊢ wp frame (wpE (defs₀ (F := F)) 𝒱₀ (c : Thread nD τ) none) Set.univ
          (cc0_body aM (Memref.isWhole_whole _) oM (Memref.isWhole_whole _)
            xM (Memref.isWhole_whole _) lM (Memref.isWhole_whole _) sM (Memref.isWhole_whole _) tM (Memref.isWhole_whole _) cM (Memref.isWhole_whole _)
            cc0_scratch5 cc0_scratch6 cc0_scratch7 cc0_scratch8) (fun _ => runPost m c) := by
  refine (stretch1 m K c W _ fo fx fl fs ft).2 ((stretch2 m K c W _ fo fx fl fs ft).2 ((stretch3 m K c W _ fo fx fl fs ft).2 ?_))
  sl_resume
  sl_exec_parts
  rw [wp_ret]
  imod (cell_zero m _ _) $$ IB Hbar with ZB
  imod (cell_zero m _ _) $$ IS0 PS0 with ZS0
  imod (cell_zero m _ _) $$ IS1 PS1 with ZS1
  imod (cell_zero m _ _) $$ IS2 PS2 with ZS2
  imod (cell_zero m _ _) $$ IS3 PS3 with ZS3
  imod (cell_zero m _ _) $$ IS4 PS4 with ZS4
  imod (cell_zero m _ _) $$ IS5 PS5 with ZS5
  imod (cell_zero m _ _) $$ IS6 PS6 with ZS6
  imod (cell_zero m _ _) $$ IR0 PR0 with ZR0
  imod (cell_zero m _ _) $$ IR1 PR1 with ZR1
  imod (cell_zero m _ _) $$ IR2 PR2 with ZR2
  imod (cell_zero m _ _) $$ IR3 PR3 with ZR3
  imod (cell_zero m _ _) $$ IR4 PR4 with ZR4
  imod (cell_zero m _ _) $$ IR5 PR5 with ZR5
  imod (cell_zero m _ _) $$ IR6 PR6 with ZR6
  imodintro
  unfold runPost
  ihave HOut := (out_rows m c fo fs (run_body.sl.dma3 m c fs) (run_body.sl.dma6 m c fs)
    (carried m c 14 fs _ _ _ _ _ _ (coef14_run m c) (scan_cov m c 14))
    (carried m c 15 fs _ _ _ _ _ _ (coef15_run m c) (scan_cov m c 15))) $$ HOut
  isplitl [Q0 Q1 Q2 Q3 Q4 Q5 Q6 Q7 Q8 Q9]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    iexact Q9
  isplitl [ZS0 ZS1 ZS2 ZS3 ZS4 ZS5 ZS6]
  · isplitl [ZS0]; · iexact ZS0
    isplitl [ZS1]; · iexact ZS1
    isplitl [ZS2]; · iexact ZS2
    isplitl [ZS3]; · iexact ZS3
    isplitl [ZS4]; · iexact ZS4
    isplitl [ZS5]; · iexact ZS5
    iexact ZS6
  isplitl [ZR0 ZR1 ZR2 ZR3 ZR4 ZR5 ZR6]
  · isplitl [ZR0]; · iexact ZR0
    isplitl [ZR1]; · iexact ZR1
    isplitl [ZR2]; · iexact ZR2
    isplitl [ZR3]; · iexact ZR3
    isplitl [ZR4]; · iexact ZR4
    isplitl [ZR5]; · iexact ZR5
    iexact ZR6
  isplitl [ZB]; · iexact ZB
  isplitl [HA HOut]
  · isplitl [HA]; · iexact HA
    iexact HOut
  isplitl [HX HB HS HT HL2]
  · isplitl [HX]; · iexists _; iexact HX
    isplitl [HB]; · iexists _; iexact HB
    isplitl [HS]; · iexists _; iexact HS
    isplitl [HT]; · iexists _; iexact HT
    iexists _; iexact HL2
  iexists _; iexact HO

end Cert.Cumprod
-- ==== Proof.Alloc.lean ====
/-
The launch's ghost state: the cells and tokens minted, every device's fifteen cells given their invariants, the tokens
dealt to the devices that pay with them, and the credits of what the other devices owe a device.
-/
module

public import proofs.«01_k».proof.Proof.Run4

@[expose] public section

noncomputable section

namespace Cert.Cumprod

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The cells and the tokens -/

/-- The kernel's own transfer semaphores, by number. -/
abbrev osem : Fin 24 → SemLoc sig := fun i => .dma i
theorem ownSemFacts : Pipeline.OwnSemFacts cfg0.spec osem := by decide

theorem csem_inj : Function.Injective csem := by decide
theorem kcell_inj : Function.Injective (kcell : Dev nD × Fin 15 → GSem nD τ sig) := by
  rintro ⟨c, k⟩ ⟨c', k'⟩ h
  have h1 : c = c' := congrArg (fun g : GSem nD τ sig => g.1.1) h
  have h2 : csem k = csem k' := congrArg Prod.snd h
  subst h1
  rw [csem_inj h2]
def ringCells : Finset (GSem nD τ sig) := Finset.univ.map ⟨kcell, kcell_inj⟩

/-- The cell and the duty of a device's token: of its barrier cell, its send cells, its receive cells. -/
def tokSem (k : Fin 3 × Fin 7) : Fin 15 × Fin 7 :=
  if k.1 = 0 then (0, k.2) else if k.1 = 1 then (ixS k.2, 0) else (ixR k.2, 0)
theorem tokSem_inj : Function.Injective tokSem := by decide
def tokOf (x : Dev nD × (Fin 3 × Fin 7)) : GSem nD τ sig × ℕ × Fin 7 := (kcell (x.1, (tokSem x.2).1), 0, (tokSem x.2).2)
theorem tokOf_inj : Function.Injective tokOf := by
  rintro ⟨c, k⟩ ⟨c', k'⟩ h
  have h1 : (c, (tokSem k).1) = (c', (tokSem k').1) := kcell_inj (congrArg Prod.fst h)
  have h2 : (tokSem k).2 = (tokSem k').2 := congrArg (fun y : GSem nD τ sig × ℕ × Fin 7 => y.2.2) h
  have h3 : c = c' := congrArg Prod.fst h1
  subst h3
  rw [tokSem_inj (Prod.ext (congrArg Prod.snd h1) h2)]
def ringToks : Finset (GSem nD τ sig × ℕ × Fin 7) := Finset.univ.map ⟨tokOf, tokOf_inj⟩

def u₀ : UU :=
  (initOf (Pipeline.cells cfgs cellOf_inj) (Pipeline.launchToks cfgs cellOf_inj), (initOf ringCells ringToks, 1))

/-- The tokens of device `c`'s own cells. -/
def toks (c : Dev nD) : sProp 𝕄 :=
  iprop((bigSep Finset.univ fun j : Fin 7 => dutyTok ER (barCell c) 0 j)
    ∗ (bigSep Finset.univ fun j : Fin 7 => dutyTok ER (sendCell c j) 0 0)
    ∗ (bigSep Finset.univ fun j : Fin 7 => dutyTok ER (recvCell c j) 0 0))

/-- What the launch element deals device `c`. -/
def G (c : Dev nD) : sProp 𝕄 :=
  iprop((bigSep Finset.univ fun k : Fin 15 => roundState ER (Rd m) (kcell (c, k)) 0)
    ∗ (bigSep Finset.univ fun k : Fin 15 => iprop(atPos ER (kcell (c, k)) 0 ∅ 0 ∗ reached ER (kcell (c, k)) 0)) ∗ toks c)

theorem bigSep3 (Φ : Fin 3 → sProp 𝕄) : bigSep Finset.univ Φ = iprop(Φ 0 ∗ Φ 1 ∗ Φ 2) :=
  BI.bigSep_univ_eq_bigSepL [0, 1, 2] (by decide) (by decide) Φ

theorem fund_ring : (BI.own ((ER : Emb UB 𝕄) (initOf ringCells ringToks)) : sProp 𝕄) ⊢ (|==> bigSep Finset.univ (G m) : sProp 𝕄) := by
  have hX (Φ : GSem nD τ sig → sProp 𝕄) : bigSep ringCells Φ = bigSep Finset.univ fun c : Dev nD => bigSep Finset.univ fun k : Fin 15 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    have hS : (bigSep Finset.univ fun j : Fin 7 => (dutyTok ER (kcell (c, ixS j)) 0 0 : sProp 𝕄)) = bigSep Finset.univ fun j : Fin 7 => dutyTok ER (sendCell c j) 0 0 :=
      bigSep_congr fun j _ => congrArg (fun s : SemLoc sig => (dutyTok ER ((c : Thread nD τ), s) 0 0 : sProp 𝕄)) (csem_S j)
    have hR : (bigSep Finset.univ fun j : Fin 7 => (dutyTok ER (kcell (c, ixR j)) 0 0 : sProp 𝕄)) = bigSep Finset.univ fun j : Fin 7 => dutyTok ER (recvCell c j) 0 0 :=
      bigSep_congr fun j _ => congrArg (fun s : SemLoc sig => (dutyTok ER ((c : Thread nD τ), s) 0 0 : sProp 𝕄)) (csem_R j)
    unfold toks; rw [bigSep_univ_prod, bigSep3, ← hS, ← hR]
    rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The ten semaphores of the local transfers, at zero. -/
def localSems (c : Dev nD) : sProp 𝕄 :=
  iprop(semVal ((c : Thread nD τ), SemLoc.dma 0) 0 ∗ semVal ((c : Thread nD τ), SemLoc.dma 1) 0 ∗ semVal ((c : Thread nD τ), SemLoc.dma 2) 0
      ∗ semVal ((c : Thread nD τ), SemLoc.dma 3) 0 ∗ semVal ((c : Thread nD τ), SemLoc.dma 4) 0 ∗ semVal ((c : Thread nD τ), SemLoc.dma 5) 0
      ∗ semVal ((c : Thread nD τ), SemLoc.dma 6) 0 ∗ semVal ((c : Thread nD τ), SemLoc.dma 7) 0 ∗ semVal ((c : Thread nD τ), SemLoc.dma 8) 0
      ∗ semVal ((c : Thread nD τ), SemLoc.dma 9) 0)

theorem unscopedSems_eq (c : Dev nD) : (unscopedSems0 c : sProp 𝕄) = semVal (barCell c) 0 := by
  unfold unscopedSems0; rw [bigSep_eq_bigSepL_of_eq [SemLoc.reg barS] (by decide) (by decide)]; rfl

theorem localSems_eq (c : Dev nD) : (localSems c : sProp 𝕄)
    = bigSep Finset.univ fun j : Fin 10 => semVal ((c : Thread nD τ), SemLoc.dma (⟨j.val, by show j.val < 24; omega⟩ : DmaSem sig)) 0 :=
  (BI.bigSep_univ_eq_bigSepL [0, 1, 2, 3, 4, 5, 6, 7, 8, 9] (by decide) (by decide)
    (fun j : Fin 10 => (semVal ((c : Thread nD τ), SemLoc.dma (⟨j.val, by show j.val < 24; omega⟩ : DmaSem sig)) 0 : sProp 𝕄))).symm

theorem ownSems_eq (c : Dev nD) : (Pipeline.ownSems0 (Ix := Unit) (Name := ℕ) (U := UU) (Lvl := ℕ) (Val := Elt F) (τ := τ) osem c : sProp 𝕄)
    = iprop(localSems c ∗ (bigSep Finset.univ fun j : Fin 7 => semVal (sendCell c j) 0) ∗ bigSep Finset.univ fun j : Fin 7 => semVal (recvCell c j) 0) := by
  have hl : Function.Injective fun j : Fin 10 => (⟨j.val, by omega⟩ : Fin 24) := by decide
  have hs : Function.Injective fun j : Fin 7 => (⟨10 + j.val, by omega⟩ : Fin 24) := by decide
  have hr : Function.Injective fun j : Fin 7 => (⟨17 + j.val, by omega⟩ : Fin 24) := by decide
  unfold Pipeline.ownSems0
  rw [show (Finset.univ : Finset (Fin 24)) = Finset.univ.map ⟨_, hl⟩ ∪ (Finset.univ.map ⟨_, hs⟩ ∪ Finset.univ.map ⟨_, hr⟩) from by decide +revert,
    bigSep_union (by decide +revert), bigSep_union (by decide +revert), bigSep_map, bigSep_map, bigSep_map, localSems_eq]
  rfl

/-- Over the fifteen cells: the barrier's, the send cells', the receive cells'. -/
theorem bigSep15 (Φ : SemLoc sig → sProp 𝕄) : (bigSep Finset.univ fun k : Fin 15 => Φ (csem k))
    = iprop(Φ (.reg barS) ∗ (bigSep Finset.univ fun j : Fin 7 => Φ (.dma (sendS j))) ∗ bigSep Finset.univ fun j : Fin 7 => Φ (.dma (recvS j))) := by
  have hu : (Finset.univ : Finset (Fin 15)) = insert 0 (Finset.univ.image ixS ∪ Finset.univ.image ixR) := by decide
  have hS : (bigSep (Finset.univ.image ixS) fun k : Fin 15 => Φ (csem k)) = bigSep Finset.univ fun j : Fin 7 => Φ (.dma (sendS j)) := by
    rw [show Finset.univ.image ixS = Finset.univ.map ⟨ixS, by decide⟩ from by decide, bigSep_map]
    exact bigSep_congr fun j _ => congrArg Φ (csem_S j)
  have hR : (bigSep (Finset.univ.image ixR) fun k : Fin 15 => Φ (csem k)) = bigSep Finset.univ fun j : Fin 7 => Φ (.dma (recvS j)) := by
    rw [show Finset.univ.image ixR = Finset.univ.map ⟨ixR, by decide⟩ from by decide, bigSep_map]
    exact bigSep_congr fun j _ => congrArg Φ (csem_R j)
  rw [hu, bigSep_insert (by decide), bigSep_union (by decide), hS, hR, csem_zero]
  rfl

theorem sems_split (c : Dev nD) :
    iprop(Pipeline.ownSems0 (Ix := Unit) (Name := ℕ) (U := UU) (Lvl := ℕ) (Val := Elt F) (τ := τ) osem c ∗ unscopedSems0 c)
      ⊢ (iprop(localSems c ∗ bigSep Finset.univ fun k : Fin 15 => semVal (kcell (c, k)) 0) : sProp 𝕄) := by
  rw [ownSems_eq, unscopedSems_eq, bigSep15 (fun s => semVal ((c : Thread nD τ), s) 0)]
  iintro ⟨⟨H, HS, HV⟩, HB⟩
  isplitl [H]; · iexact H
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ (|={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) : sProp 𝕄) := by
  unfold G
  iintro ⟨Hos, Hus, Hst, Hat, Htok⟩
  ihave Hv := (sems_split (F := F) c) $$ [Hos Hus]
  · isplitl [Hos] <;> iassumption
  icases Hv with ⟨Hl, Hv⟩
  imod (show iprop((bigSep Finset.univ fun k : Fin 15 => semVal (kcell (c, k)) 0) ∗ bigSep Finset.univ fun k : Fin 15 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hl

/-! ## The tokens dealt -/

/-- What stays with device `c`: where it stands at its cells, and the tokens it pays with. -/
def linear (c : Dev nD) : sProp 𝕄 :=
  iprop((bigSep Finset.univ fun k : Fin 15 => atPos ER (kcell (c, k)) 0 ∅ 0) ∗ (bigSep Finset.univ fun j : Fin 7 => payToks c j) ∗ localSems c)

def G' (c : Dev nD) : sProp 𝕄 := iprop(∃ K, records m K ∗ linear c)

/-- The barrier tokens: device `c`'s duty `j` is paid by the device in direction `j`, in the direction that comes back. -/
def dealB : Dev nD × Fin 7 ≃ Dev nD × Fin 7 :=
  ⟨fun x => (up x.1 x.2, rev x.2), fun x => (up x.1 x.2, rev x.2),
    fun x => Prod.ext (up_rev x.1 x.2) (rev_rev x.2), fun x => Prod.ext (up_rev x.1 x.2) (rev_rev x.2)⟩
/-- The receive tokens: those of direction `j` go back `j + 1` places. -/
def dealR : Dev nD × Fin 7 ≃ Dev nD × Fin 7 :=
  ⟨fun x => (up x.1 x.2, x.2), fun x => (up x.1 (rev x.2), x.2),
    fun x => Prod.ext (up_rev x.1 x.2) rfl, fun x => Prod.ext (up_rev' x.1 x.2) rfl⟩

theorem toks_deal : (bigSep Finset.univ fun c : Dev nD => (toks c : sProp 𝕄)) ⊢ bigSep Finset.univ fun c : Dev nD => bigSep Finset.univ fun j : Fin 7 => payToks c j := by
  rw [← bigSep_univ_prod (fun x : Dev nD × Fin 7 => (payToks x.1 x.2 : sProp 𝕄))]
  unfold toks payToks
  rw [bigSep_sep', bigSep_sep', bigSep_sep', bigSep_sep',
    ← bigSep_univ_prod (fun x : Dev nD × Fin 7 => (dutyTok ER (barCell x.1) 0 x.2 : sProp 𝕄)),
    ← bigSep_univ_prod (fun x : Dev nD × Fin 7 => (dutyTok ER (sendCell x.1 x.2) 0 0 : sProp 𝕄)),
    ← bigSep_univ_prod (fun x : Dev nD × Fin 7 => (dutyTok ER (recvCell x.1 x.2) 0 0 : sProp 𝕄)),
    bigSep_univ_equiv dealB (fun x : Dev nD × Fin 7 => (dutyTok ER (barCell x.1) 0 x.2 : sProp 𝕄)),
    bigSep_univ_equiv dealR (fun x : Dev nD × Fin 7 => (dutyTok ER (recvCell x.1 x.2) 0 0 : sProp 𝕄))]
  exact .rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 15 → ℕ) (c : Dev nD) : iprop(records m K ∗ linear c) ⊢ G' m c := by
  unfold G'
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ localSems c) : sProp 𝕄)
      ⊢ bigSep Finset.univ (G' m) := by
  rw [bigSep_sep', bigSep_sep', bigSep_sep', ← bigSep_univ_prod (fun ck : Dev nD × Fin 15 => iprop(∃ κ : ℕ, cellInv ER (Rd m) κ (kcell ck))),
    bigSep_congr (s := Finset.univ) (fun (c : Dev nD) _ => bigSep_sep' Finset.univ (fun k : Fin 15 => (atPos ER (kcell (c, k)) 0 ∅ 0 : sProp 𝕄)) (fun k => reached ER (kcell (c, k)) 0)),
    bigSep_sep', ← bigSep_univ_prod (fun ck : Dev nD × Fin 15 => (reached ER (kcell ck) 0 : sProp 𝕄))]
  iintro ⟨HI, ⟨Hat, #HR⟩, Htok, Hl⟩
  ihave HK := (BI.bigSep_exists_pi Finset.univ (fun (ck : Dev nD × Fin 15) (κ : ℕ) => (cellInv ER (Rd m) κ (kcell ck) : sProp 𝕄))) $$ HI
  icases HK with ⟨%K, #HI⟩
  ihave Htk := (toks_deal (F := F)) $$ Htok
  iapply (with_persistent (R := records m K) fun c _ => ghost_intro m K c)
  isplitr
  · unfold records; isplitl; · iexact HI
    iexact HR
  · unfold linear
    rw [bigSep_sep', bigSep_sep']
    isplitl [Hat]; · iexact Hat
    isplitl [Htk]; · iexact Htk
    iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ (|={Set.univ}=> bigSep Finset.univ (G' m) : sProp 𝕄) :=
  ((bigSep_mono fun c _ => core_alloc m c).trans (bigSep_fupd _ _)).trans (BI.fupd_mono (regroup m))

/-! ## The launch credit -/

theorem bar_eq {a b : Dev nD} (h : barCell a = barCell b) : a = b := congrArg (fun g : GSem nD τ sig => g.1.1) h
theorem recv_eq {a b : Dev nD} {j k : Fin 7} (h : recvCell a j = recvCell b k) : a = b ∧ j = k :=
  ⟨congrArg (fun g : GSem nD τ sig => g.1.1) h, by
    have h2 : (SemLoc.dma (recvS j) : SemLoc sig) = .dma (recvS k) := congrArg Prod.snd h
    clear h; revert h2; revert j k; decide⟩
theorem recv_ne_bar (a b : Dev nD) (j : Fin 7) : recvCell a j ≠ barCell b := fun h => by
  have h2 : (SemLoc.dma (recvS j) : SemLoc sig) = .reg barS := congrArg Prod.snd h
  cases h2

theorem up_iff (c d : Dev nD) (j : Fin 7) : c = up d j ↔ d = up c (rev j) :=
  ⟨fun h => by rw [h, up_rev], fun h => by rw [h, up_rev']⟩

theorem owed_bar (d c : Dev nD) : O₀ d (barCell c) () = ∑ j : Fin 7, if d = up c (rev j) then 1 else 0 := by
  rw [O₀_apply, Finset.sum_eq_zero fun j _ => ?_, Nat.zero_add]
  · refine Finset.sum_congr rfl fun j _ => ?_
    rw [tallyAt_apply]
    refine if_congr ⟨fun h => (up_iff c d j).mp (bar_eq h.1), fun h => ⟨?_, rfl⟩⟩ rfl rfl
    rw [← (up_iff c d j).mpr h]
  · rw [tallyAt_apply, if_neg fun h => recv_ne_bar _ _ _ h.1.symm]

theorem owed_recv (d c : Dev nD) (j : Fin 7) : O₀ d (recvCell c j) () = if d = up c (rev j) then N else 0 := by
  rw [O₀_apply, Finset.sum_eq_zero (f := fun i => tb d i (recvCell c j) ()) fun i _ => ?_, Nat.add_zero,
    Finset.sum_eq_single j (fun i _ hi => ?_) (fun h => absurd (Finset.mem_univ j) h)]
  · rw [tallyAt_apply]
    refine if_congr ⟨fun h => (up_iff c d j).mp (recv_eq h.1).1, fun h => ⟨?_, rfl⟩⟩ rfl rfl
    rw [← (up_iff c d j).mpr h]
  · rw [tallyAt_apply, if_neg fun h => hi (recv_eq h.1).2.symm]
  · rw [tallyAt_apply, if_neg fun h => recv_ne_bar _ _ _ h.1]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun j _ => (Finset.sum_ite_eq' Finset.univ (up c (rev j)) fun _ => 1).trans (if_pos (Finset.mem_univ _)),
    Finset.sum_const, Finset.card_univ, Fintype.card_fin]
  rfl

theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (up c (rev j)) fun _ => N,
    if_pos (Finset.mem_univ _)]

theorem creds (c : Dev nD) :
    (Pipeline.launchCred O₀ c : sProp 𝕄) ⊢ iprop(cred (tallyAt (barCell c) () 7) ∗ bigSep Finset.univ fun j : Fin 7 => cred (tallyAt (recvCell c j) () N)) := by
  unfold Pipeline.launchCred
  rw [bigSep_univ_at _ (SemLoc.reg barS), launch_bar]
  refine sep_mono_right ?_
  have hj : Function.Injective fun j : Fin 7 => (SemLoc.dma (recvS j) : SemLoc sig) := by decide
  refine (bigSep_subset (t := Finset.univ.map ⟨_, hj⟩) fun s hs => ?_).trans ?_
  · obtain ⟨j, -, rfl⟩ := Finset.mem_map.mp hs
    exact Finset.mem_erase.mpr ⟨fun h => (by cases h), Finset.mem_univ _⟩
  · rw [bigSep_map]
    exact bigSep_mono fun j _ => Entails.of_eq (congrArg cred (launch_recv c j))

end Cert.Cumprod
-- ==== Proof.Launch.lean ====
/-
The run of the whole program on the eight devices, for any float values.
-/
module

public import proofs.«01_k».proof.Proof.Alloc

@[expose] public section

noncomputable section

namespace Cert.Cumprod

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## What a device starts from, and the body's start from it -/

/-- What a device has at launch beside its scratch buffers. -/
def start (c : Dev nD) : sProp 𝕄 :=
  iprop(G' m c ∗ (cred (tallyAt (barCell c) () 7) ∗ bigSep Finset.univ fun j : Fin 7 => cred (tallyAt (recvCell c j) () N))
    ∗ levAts L lv ∗ held c aM (m ((c : Thread nD τ).loc main_arg0)) ∗ held c oM (m ((c : Thread nD τ).loc main_v1)))

/-- The five scratch buffers, each at some contents. -/
def scratch (c : Dev nD) : sProp 𝕄 :=
  iprop((∃ f, held c xM f) ∗ (∃ f, held c lM f) ∗ (∃ f, held c sM f) ∗ (∃ f, held c tM f) ∗ (∃ f, held c cM f))

def Φ₀ (c : Dev nD) : sProp 𝕄 := iprop(start m c ∗ scratch c)
def Φ₁ (c : Dev nD) : sProp 𝕄 :=
  iprop((localSems c ∗ (bigSep Finset.univ fun j : Fin 7 => semVal (sendCell c j) 0) ∗ (bigSep Finset.univ fun j : Fin 7 => semVal (recvCell c j) 0) ∗ semVal (barCell c) 0)
    ∗ (held c aM (m ((c : Thread nD τ).loc main_arg0)) ∗ held c oM (outv m c)) ∗ scratch c)

/-- The landing buffer by its seven slots, each what the device hands over in the direction that comes back. -/
theorem slots_of (c : Dev nD) (f : Buf (Elt F) (cM.view.loc (c : Thread nD τ))) :
    (held c cM f : sProp 𝕄) ⊢ bigSep Finset.univ fun j : Fin 7 => barPay (up c j) (rev j) := by
  have hcov : (Finset.univ : Finset S7x1024.Idx) = (Finset.univ : Finset (Fin 7)).biUnion (fun j => (slotM j).view.set) := by
    ext i; simp only [Finset.mem_univ, Finset.mem_biUnion, true_and, true_iff]; exact ⟨i 0, (mem_slot _ i).mpr rfl⟩
  have hj : ((cM.view.loc (c : Thread nD τ) ↦[(Finset.univ : Finset S7x1024.Idx)]{fullShare} (f : Buf (Elt F) (cM.view.loc (c : Thread nD τ)))) : sProp 𝕄)
      = bigSep (Finset.univ : Finset (Fin 7)) (fun j => slotPts c j f) := by
    rw [hcov]
    refine pointsTo_biUnion (ℓ := cM.view.loc (c : Thread nD τ)) _ _ fun t _ t' _ hne => Finset.disjoint_left.mpr fun i h h' => hne ?_
    rw [← (mem_slot t i).mp h, ← (mem_slot t' i).mp h']
  refine BIBase.Entails.trans (Entails.of_eq hj) ?_
  rw [bigSep_univ_equiv revE (fun j : Fin 7 => (slotPts c j f : sProp 𝕄))]
  refine bigSep_mono fun j _ => ?_
  unfold barPay
  rw [up_rev]
  exact exists_intro (Φ := fun g => (slotPts c (rev j) g : sProp 𝕄)) f

/-- Direction by direction, what a device holds of the protocol. -/
theorem dirs_of (c : Dev nD) :
    iprop((bigSep Finset.univ fun j : Fin 7 => atPos ER (sendCell c j) 0 ∅ 0) ∗ (bigSep Finset.univ fun j : Fin 7 => atPos ER (recvCell c j) 0 ∅ 0)
      ∗ (bigSep Finset.univ fun j : Fin 7 => payToks c j) ∗ (bigSep Finset.univ fun j : Fin 7 => barPay (up c j) (rev j))
      ∗ bigSep Finset.univ fun j : Fin 7 => cred (tallyAt (recvCell c j) () N))
    ⊢ (iprop(dir c 0 ∗ dir c 1 ∗ dir c 2 ∗ dir c 3 ∗ dir c 4 ∗ dir c 5 ∗ dir c 6) : sProp 𝕄) := by
  rw [← bigSep_sep', ← bigSep_sep', ← bigSep_sep', ← bigSep_sep', ← bigSep7 (fun j => dir c j)]
  exact .rfl

theorem pre_of (c : Dev nD) (W : Waits sig Unit) :
    iprop(Φ₀ m c ∗ owes (c : Thread nD τ) (O₀ c) W)
      ⊢ (iprop(∃ K fx fl fs ft, runPre m K c W (m ((c : Thread nD τ).loc main_v1)) fx fl fs ft) : sProp 𝕄) := by
  unfold Φ₀ start scratch G' linear
  rw [bigSep15 (fun s => atPos ER ((c : Thread nD τ), s) 0 ∅ 0)]
  iintro ⟨⟨⟨⟨%K, #HR, ⟨PB, PS, PR⟩, HT, HL⟩, ⟨C7, CR⟩, #Hlev, HA, HO⟩, ⟨%fx, HX⟩, ⟨%fl, HLM⟩, ⟨%fs, HS⟩, ⟨%ft, HTM⟩, ⟨%fc, HC⟩⟩, HOw⟩
  ihave HC := (slots_of c fc) $$ HC
  ihave HD := (dirs_of c) $$ [PS PR HT HC CR]
  · isplitl [PS]; · iexact PS
    isplitl [PR]; · iexact PR
    isplitl [HT]; · iexact HT
    isplitl [HC]; · iexact HC
    iexact CR
  iexists K; iexists fx; iexists fl; iexists fs; iexists ft
  unfold runPre
  isplitr; · iexact HR
  isplitr; · iexact Hlev
  isplitl [HL]; · unfold localSems; iexact HL
  isplitl [HA HO HX HLM HS HTM]
  · isplitl [HA]; · iexact HA
    isplitl [HO]; · iexact HO
    isplitl [HX]; · iexact HX
    isplitl [HLM]; · iexact HLM
    isplitl [HS]; · iexact HS
    iexact HTM
  isplitl [PB C7]
  · isplitl [PB]; · iexact PB
    iexact C7
  isplitl [HD]; · iexact HD
  iexact HOw

theorem post_to (c : Dev nD) : (runPost m c : sProp 𝕄) ⊢ iprop(Φ₁ m c ∗ ∃ W, owes (c : Thread nD τ) 0 W) := by
  unfold runPost Φ₁ scratch localSems
  rw [bigSep7, bigSep7]
  iintro ⟨HL, HS, HR, HB, HM, HSc, HO⟩
  isplitr [HO]
  · isplitl [HL HS HR HB]
    · isplitl [HL]; · iexact HL
      isplitl [HS]; · iexact HS
      isplitl [HR]; · iexact HR
      iexact HB
    isplitl [HM]; · iexact HM
    iexact HSc
  iexact HO

/-! ## The pipeline's data: no window, one point -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

def bodyPost (c : Dev nD) : sProp 𝕄 := iprop(Φ₁ m c ∗ (dats m 0 c).owesAt () t0_0.succ ∗ emp)

theorem post_body (c : Dev nD) : (runPost m c : sProp 𝕄) ⊢ bodyPost m c := by
  iintro H
  ihave H := (post_to m c) $$ H
  unfold bodyPost
  icases H with ⟨H1, %W', HO⟩
  isplitl [H1]; · iexact H1
  isplitl [HO]
  · iexists W'
    isplitr; · ipureintro; exact fun _ _ => Or.inl trivial
    iexact HO
  iempintro

theorem sound_body (c : Dev nD) :
    iprop(Φ₀ m c ∗ (dats m 0 c).owesAt () t0_0.castSucc ∗ emp)
      ⊢ wp frame (wpE (defs₀ (F := F)) 𝒱₀ (c : Thread nD τ) none) Set.univ
        (cc0_body aM (Memref.isWhole_whole _) oM (Memref.isWhole_whole _) xM (Memref.isWhole_whole _) lM (Memref.isWhole_whole _) sM (Memref.isWhole_whole _)
          tM (Memref.isWhole_whole _) cM (Memref.isWhole_whole _) cc0_scratch5 cc0_scratch6 cc0_scratch7 cc0_scratch8) (fun _ => bodyPost m c) := by
  iintro ⟨HΦ, ⟨%W, %hW, HO⟩, -⟩
  ihave H := (pre_of m c W) $$ [HΦ HO]
  · isplitl [HΦ]; · iexact HΦ
    iexact HO
  icases H with ⟨%K, %fx, %fl, %fs, %ft, H⟩
  iapply ((run_body m K c W (m ((c : Thread nD τ).loc main_v1)) fx fl fs ft).trans (wp_mono _ _ _ fun _ => post_body m c))
  iexact H

set_option maxRecDepth 16384 in
theorem body_obligation (c : Dev nD) : BodyObligation (dats (F := F) m 0 c) (defs₀ (F := F)) 𝒱₀ () Set.univ := fun t => by
  rw [fin_N0 t]
  rw [show (Finset.univ : Finset (Fin cfg0.W)) = ∅ from rfl, bigSep_empty, bigSep_empty]
  exact sound_body m c

/-! ## The run -/

/-- What a device leaves the region with, beside its scoped buffers and semaphores. -/
def left (c : Dev nD) : sProp 𝕄 :=
  iprop(unscopedSems0 c ∗ held c aM (m ((c : Thread nD τ).loc main_arg0)) ∗ held c oM (outv m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  have hb : (Pipeline.unscopedRestP Pipeline.Prefetch.none cfg0.spec c (fun b => m ((c : Thread nD τ).loc b)) : sProp 𝕄)
      = iprop(held c aM (m ((c : Thread nD τ).loc main_arg0)) ∗ held c oM (m ((c : Thread nD τ).loc main_v1))) :=
    Pipeline.unscopedRestP_eq_of_list (cfg0.spec) c Pipeline.Prefetch.none (fun b => m ((c : Thread nD τ).loc b)) [main_arg0, main_v1] (by decide) (by decide)
  rw [hb]
  iintro ⟨⟨HA, HO⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [HA]; · iexact HA
    iexact HO
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq, ownSems_eq]
  unfold Φ₁ scratch left
  rw [unscopedSems_eq]
  iintro ⟨⟨HL, HS, HR, HB⟩, HM, HSc⟩
  isplitl [HB HM]
  · isplitl [HB]; · iexact HB
    iexact HM
  isplitl [HL HS HR]
  · isplitl [HL]; · iexact HL
    isplitl [HS]; · iexact HS
    iexact HR
  iexact HSc

theorem waits (c : Dev nD) : (levAts L lv : sProp 𝕄) ⊢ Pipeline.cellsWaits cfgs (dats m) () 0 c :=
  Pipeline.cellsWaits_intro cfgs (dats m) () 0 c fun w s t => w.elim0

theorem share_eq (c : Dev nD) (w : Fin cfg0.W) : (dats m 0 c).share w = fullShare := w.elim0

/-- What a device's memory and unscoped semaphores are at the end. -/
def Ends (c : Dev nD) (s : MemSt nD τ sig (Elt F)) : Prop :=
  (s.mem ((c : Thread nD τ).loc main_arg0) = m ((c : Thread nD τ).loc main_arg0) ∧ s.mem ((c : Thread nD τ).loc main_v1) = outv m c)
    ∧ ∀ sm : SemLoc sig, sm.isScoped .tc = false → s.sem ((c.tc : Thread nD τ), sm) = 0

theorem left_read (c : Dev nD) (s' : Phys nD τ sig (Elt F)) :
    iprop(left m c ∗ emp ∗ SI s') ⊢ (|={Set.univ}=> iprop(⌜Ends m c s'.mem⌝ ∗ SI s') : sProp 𝕄) := by
  unfold left
  rw [unscopedSems_eq]
  iintro ⟨⟨Hu, HA, HO⟩, -, HSI⟩
  icombine HSI HA gives %hA
  icombine HSI HO gives %hO
  icombine HSI Hu gives %hu
  imodintro
  isplitr
  · ipureintro
    exact ⟨⟨Buf.eq_of_forall_mem_univ hA, Buf.eq_of_forall_mem_univ hO⟩, fun sm hsm => by
      obtain rfl : sm = .reg barS := by clear hu hA hO; revert hsm; revert sm; decide
      exact hu⟩
  iexact HSI

theorem deal : (ownU (u₀ : UU) : sProp 𝕄)
    ⊢ (|={Set.univ}=> iprop(BI.own ((EP : Emb (UR sig nD τ) 𝕄) (initOf (Pipeline.cells cfgs cellOf_inj) (Pipeline.launchToks cfgs cellOf_inj))) ∗ bigSep Finset.univ (G m)) : sProp 𝕄) := by
  unfold u₀
  iintro Hu
  ihave H := (ownU_pair _ _) $$ Hu
  icases H with ⟨HP, HX⟩
  ihave HX := (own_pair_emb _ _ _) $$ HX
  icases HX with ⟨HX, -⟩
  imod (fund_ring m) $$ [HX] with HG
  · iexact HX
  imodintro
  isplitl [HP] <;> iassumption

set_option maxRecDepth 8000 in
/-- On the eight devices, for any float values, from any memory with zero counters: every weakly fair execution of the
    program terminates, and in every final state each device's `x` is what it was, its result is `outv`, and every
    semaphore counter is zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v1) = outv m c) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := deal m)
    (hglob := glob m)
    (hA := fun _ w => w.elim0) (hpf := fun _ k => k.elim0)
    (X := start m) (Y := left m) (Z := fun _ => iprop(emp))
    (hX := start_intro m ρ) (hin := phi0_intro m) (hout := phi1_exit m)
    (QY := Ends m)
    (hY := left_read m)
    (hQ := fun _ h hs => ⟨fun c => (h c).2.2.1, sem_eq_zero hs fun c => (h c).2.2.2⟩)

end Cert.Cumprod
-- ==== Proof.Math.lean ====
/-
The kernel's result over exact numbers: row `i` of device `c` is the product of all that the earlier devices hold and of the
device's own rows up to `i`. A block's scan doubles the reach of its windows step by step; its product halves the rows.
-/
module

public import proofs.«01_k».proof.Proof.Run4
public import Idealize.ShloMosaic.Lib.IdealHost

@[expose] public section

noncomputable section

namespace Cert.Cumprod

open Cert.KernelIdeal Cert.KernelIdeal.Gen
open Idealize.ShloMosaic
open Idealize.ShloMosaic.TcCoe
open scoped BigOperators

/-! ## Columns -/

/-- `n` rows of 1024 columns. -/
abbrev Sn (n : ℕ) : Shape := ⟨2, ![n, 1024]⟩

/-- A place by its row and its column. -/
def at2 {n : ℕ} (r : Fin n) (k : Fin 1024) : (Sn n).Idx := fun a => match a with
  | ⟨0, _⟩ => r
  | ⟨1, _⟩ => k

theorem at2_eta {n : ℕ} (i : (Sn n).Idx) : at2 (i 0) (i 1) = i := by
  funext a
  match a with
  | ⟨0, _⟩ => rfl
  | ⟨1, _⟩ => rfl

/-- A column, with ones past its end. -/
def col {n : ℕ} (v : (Sn n).Idx → EReal) (k : Fin 1024) : ℕ → EReal := fun r => if h : r < n then v (at2 ⟨r, h⟩ k) else 1

theorem col_lt {n : ℕ} (v : (Sn n).Idx → EReal) (k : Fin 1024) {r : ℕ} (h : r < n) : col v k r = v (at2 ⟨r, h⟩ k) := dif_pos h

/-! ## A block's product -/

/-- The upper half times the lower half keeps the product of the rows. -/
theorem halve {n h : ℕ} (hn : n = h + h) (v : FVec Ideal (Sn n) .f32) (h0 : (Sn n).Slices ![0, 0] (Sn h)) (h1 : (Sn n).Slices ![h, 0] (Sn h))
    (k : Fin 1024) :
    ∏ r ∈ Finset.range h, col (mulf (extractStridedSlice (Sn h) ![0, 0] v h0) (extractStridedSlice (Sn h) ![h, 0] v h1)) k r
      = ∏ r ∈ Finset.range n, col v k r := by
  subst hn
  rw [Finset.prod_range_add, ← Finset.prod_mul_distrib]
  refine Finset.prod_congr rfl fun r hr => ?_
  have hr' : r < h := Finset.mem_range.mp hr
  rw [col_lt _ _ hr', col_lt v k (show r < h + h by omega), col_lt v k (show h + r < h + h by omega)]
  refine congrArg₂ (· * ·) (congrArg v (funext fun a => ?_)) (congrArg v (funext fun a => ?_))
  · match a with
    | ⟨0, _⟩ => exact Fin.ext (show 0 + r = r by omega)
    | ⟨1, _⟩ => exact Fin.ext (show 0 + k.val = k.val by omega)
  · match a with
    | ⟨0, _⟩ => rfl
    | ⟨1, _⟩ => exact Fin.ext (show 0 + k.val = k.val by omega)

/-- The row a block is reduced to is the product of its rows. -/
theorem prod_block (v : FVec Ideal S256x1024 .f32) (k : Fin 1024) :
    (k0_pay1 (F := Ideal) v (rowIx k) : EReal) = ∏ r ∈ Finset.range 256, col (n := 256) v k r := by
  rw [← halve (n := 256) (h := 128) rfl v slices_S256x1024_o0_0_S128x1024 slices_S256x1024_o128_0_S128x1024,
    ← halve (n := 128) (h := 64) rfl _ slices_S128x1024_o0_0_S64x1024 slices_S128x1024_o64_0_S64x1024,
    ← halve (n := 64) (h := 32) rfl _ slices_S64x1024_o0_0_S32x1024 slices_S64x1024_o32_0_S32x1024,
    ← halve (n := 32) (h := 16) rfl _ slices_S32x1024_o0_0_S16x1024 slices_S32x1024_o16_0_S16x1024,
    ← halve (n := 16) (h := 8) rfl _ slices_S16x1024_o0_0_S8x1024 slices_S16x1024_o8_0_S8x1024,
    ← halve (n := 8) (h := 4) rfl _ slices_S8x1024_o0_0_S4x1024 slices_S8x1024_o4_0_S4x1024,
    ← halve (n := 4) (h := 2) rfl _ slices_S4x1024_o0_0_S2x1024 slices_S4x1024_o2_0_S2x1024,
    ← halve (n := 2) (h := 1) rfl _ slices_S2x1024_o0_0_S1x1024 slices_S2x1024_o1_0_S1x1024,
    Finset.prod_range_one, col_lt _ _ Nat.one_pos]
  have e : (at2 (⟨0, Nat.one_pos⟩ : Fin 1) k : (Sn 1).Idx) = rowIx k := by
    funext a
    match a with
    | ⟨0, _⟩ => rfl
    | ⟨1, _⟩ => rfl
  rw [e]
  rfl

/-! ## A block's scan -/

/-- The block moved down by `d` rows, ones above it. -/
abbrev moved {d e : ℕ} (a : FVec Ideal S256x1024 .f32) (hs : S256x1024.Slices ![0, 0] (Sn e))
    (hc : Shape.Concatenates [Sn d, Sn e] S256x1024 0) : FVec Ideal S256x1024 .f32 :=
  concatenate S256x1024 0 [⟨Sn d, broadcast (Sn d) (Scalar.ofBits (F := Ideal) .f32 0x3F800000#32)⟩, ⟨Sn e, extractStridedSlice (Sn e) ![0, 0] a hs⟩] hc

theorem one_word : (Scalar.ofBits (F := Ideal) .f32 0x3F800000#32 : EReal) = 1 := Ideal.ofBits_one_f32

theorem moved_top {d e : ℕ} (a : FVec Ideal S256x1024 .f32) (hs : S256x1024.Slices ![0, 0] (Sn e))
    (hc : Shape.Concatenates [Sn d, Sn e] S256x1024 0) (r : Fin 256) (k : Fin 1024) (h : r.val < d) : moved a hs hc (at2 r k) = (1 : EReal) := by
  refine (concatenate_pair_apply_left (t := S256x1024) (s₁ := Sn d) (s₂ := Sn e) 0 _ _ hc (at2 r k) rfl (at2 ⟨r.val, h⟩ k) fun b => ?_).trans one_word
  match b with
  | ⟨0, _⟩ => rfl
  | ⟨1, _⟩ => rfl

theorem moved_rest {d e : ℕ} (hde : d + e = 256) (a : FVec Ideal S256x1024 .f32) (hs : S256x1024.Slices ![0, 0] (Sn e))
    (hc : Shape.Concatenates [Sn d, Sn e] S256x1024 0) (r : Fin 256) (k : Fin 1024) (h : d ≤ r.val) :
    moved a hs hc (at2 r k) = a (at2 ⟨r.val - d, by omega⟩ k) := by
  refine (concatenate_pair_apply_right (t := S256x1024) (s₁ := Sn d) (s₂ := Sn e) 0 _ _ hc (at2 r k) rfl rfl (at2 ⟨r.val - d, by omega⟩ k) ?_ ?_).trans ?_
  · intro b hb
    match b with
    | ⟨0, _⟩ => exact absurd rfl hb
    | ⟨1, _⟩ => rfl
  · show r.val - d + d = r.val
    omega
  · refine congrArg a (funext fun b => ?_)
    match b with
    | ⟨0, _⟩ => exact Fin.ext (show 0 + (r.val - d) = r.val - d by omega)
    | ⟨1, _⟩ => exact Fin.ext (show 0 + k.val = k.val by omega)

/-- Row `r` of `a` is the product of the `d` rows of `v` that end at `r`, or of all of them up to `r`. -/
def Reach (v : FVec Ideal S256x1024 .f32) (d : ℕ) (a : FVec Ideal S256x1024 .f32) : Prop :=
  ∀ (r : Fin 256) (k : Fin 1024), a (at2 r k) = ∏ i ∈ Finset.Ico (r.val + 1 - d) (r.val + 1), col (n := 256) v k i

theorem reach_one (v : FVec Ideal S256x1024 .f32) : Reach v 1 v := fun r k => by
  rw [show r.val + 1 - 1 = r.val from rfl, Nat.Ico_succ_singleton, Finset.prod_singleton, col_lt (n := 256) v k r.isLt]

/-- One step doubles the reach. -/
theorem reach_step {v a : FVec Ideal S256x1024 .f32} {d e : ℕ} (hde : d + e = 256) (hs : S256x1024.Slices ![0, 0] (Sn e))
    (hc : Shape.Concatenates [Sn d, Sn e] S256x1024 0) (h : Reach v d a) : Reach v (d + d) (mulf a (moved a hs hc)) := fun r k => by
  show (a (at2 r k) * moved a hs hc (at2 r k) : EReal) = _
  by_cases hr : r.val < d
  · rw [moved_top a hs hc r k hr, mul_one, h r k, show r.val + 1 - (d + d) = r.val + 1 - d by omega]
  · rw [moved_rest hde a hs hc r k (by omega), h r k, h _ k, mul_comm]
    show (∏ i ∈ Finset.Ico (r.val - d + 1 - d) (r.val - d + 1), _) * _ = _
    rw [show r.val - d + 1 - d = r.val + 1 - (d + d) by omega, show r.val - d + 1 = r.val + 1 - d by omega]
    exact Finset.prod_Ico_consecutive _ (by omega) (by omega)

theorem scan_block (v : FVec Ideal S256x1024 .f32) (r : Fin 256) (k : Fin 1024) :
    (k0_pay10 (F := Ideal) v (at2 r k) : EReal) = ∏ i ∈ Finset.range (r.val + 1), col (n := 256) v k i := by
  have h := reach_step (d := 128) (e := 128) rfl slices_S256x1024_o0_0_S128x1024 concatenates_S128x1024_S128x1024_S256x1024_d0
    (reach_step (d := 64) (e := 192) rfl slices_S256x1024_o0_0_S192x1024 concatenates_S64x1024_S192x1024_S256x1024_d0
    (reach_step (d := 32) (e := 224) rfl slices_S256x1024_o0_0_S224x1024 concatenates_S32x1024_S224x1024_S256x1024_d0
    (reach_step (d := 16) (e := 240) rfl slices_S256x1024_o0_0_S240x1024 concatenates_S16x1024_S240x1024_S256x1024_d0
    (reach_step (d := 8) (e := 248) rfl slices_S256x1024_o0_0_S248x1024 concatenates_S8x1024_S248x1024_S256x1024_d0
    (reach_step (d := 4) (e := 252) rfl slices_S256x1024_o0_0_S252x1024 concatenates_S4x1024_S252x1024_S256x1024_d0
    (reach_step (d := 2) (e := 254) rfl slices_S256x1024_o0_0_S254x1024 concatenates_S2x1024_S254x1024_S256x1024_d0
    (reach_step (d := 1) (e := 255) rfl slices_S256x1024_o0_0_S255x1024 concatenates_S1x1024_S255x1024_S256x1024_d0
      (reach_one v)))))))) r k
  rw [show r.val + 1 - (128 + 128) = 0 by omega, ← Finset.range_eq_Ico] at h
  exact h

/-! ## A device's rows -/

variable (m : (ℓ : Loc nD τ sig) → Buf (Elt Ideal) ℓ) (c : Dev nD)

/-- Column `k` of what device `c` is given. -/
def given (k : Fin 1024) : ℕ → EReal := col (n := 4096) (m ((c : Thread nD τ).loc main_arg0)) k

theorem sub_col (s : Fin 16) (k : Fin 1024) {r : ℕ} (hr : r < 256) : col (n := 256) (xsub m c s) k r = given m c k (256 * s.val + r) := by
  unfold given
  rw [col_lt _ _ hr, col_lt _ _ (show 256 * s.val + r < 4096 by omega)]
  refine congrArg (m ((c : Thread nD τ).loc main_arg0)) (funext fun a => ?_)
  match a with
  | ⟨0, _⟩ => exact Fin.ext (show 256 * s.val + 1 * r = 256 * s.val + r by omega)
  | ⟨1, _⟩ => exact Fin.ext (show 0 + 1 * k.val = k.val by omega)

theorem sub_prod (s : Fin 16) (k : Fin 1024) : (k0_pay1 (xsub m c s) (rowIx k) : EReal) = ∏ r ∈ Finset.range 256, given m c k (256 * s.val + r) :=
  (prod_block _ k).trans (Finset.prod_congr rfl fun r hr => sub_col m c s k (Finset.mem_range.mp hr))

theorem carry_prod (k : Fin 1024) : ∀ n, n < 16 → carry m c n (rowIx k) = ∏ i ∈ Finset.range (256 * n + 256), given m c k i
  | 0, _ => by
    show k0_pay1 (xsub m c 0) (rowIx k) = _
    rw [sub_prod]
    exact Finset.prod_congr rfl fun r _ => congrArg _ (Nat.zero_add r)
  | n + 1, h => by
    show (carry m c n (rowIx k) * k0_pay1 (xsub m c (Fin.ofNat 16 (n + 1))) (rowIx k) : EReal) = _
    rw [carry_prod k n (by omega), sub_prod, Finset.prod_range_add _ (256 * (n + 1)) 256,
      show 256 * n + 256 = 256 * (n + 1) by omega,
      show (Fin.ofNat 16 (n + 1)).val = n + 1 from Nat.mod_eq_of_lt h]

/-- The product of all of a device's rows. -/
def total (k : Fin 1024) : EReal := ∏ i ∈ Finset.range 4096, given m c k i

theorem tot_prod (k : Fin 1024) : tot m c (rowIx k) = total m c k := carry_prod m c k 15 (by decide)

/-! ## What the earlier devices hold -/

theorem word_eq (c : Dev nD) : stretch1.sl.v2 c = BitVec.ofNat 32 c.val := by revert c; decide +kernel

/-- The seven landed rows, those past the device's own number left out, in any values. -/
theorem seven (T : ℕ → EReal) (c : Fin 8) :
    ((((((if 1 ≤ c.val then T (c.val - 1) else 1) * (if 2 ≤ c.val then T (c.val - 2) else 1)) * (if 3 ≤ c.val then T (c.val - 3) else 1))
        * (if 4 ≤ c.val then T (c.val - 4) else 1)) * (if 5 ≤ c.val then T (c.val - 5) else 1)) * (if 6 ≤ c.val then T (c.val - 6) else 1))
        * (if 7 ≤ c.val then T (c.val - 7) else 1) = ∏ d ∈ Finset.range c.val, T d := by
  obtain ⟨n, hn⟩ := c
  show ((((((if 1 ≤ n then T (n - 1) else 1) * (if 2 ≤ n then T (n - 2) else 1)) * (if 3 ≤ n then T (n - 3) else 1))
        * (if 4 ≤ n then T (n - 4) else 1)) * (if 5 ≤ n then T (n - 5) else 1)) * (if 6 ≤ n then T (n - 6) else 1))
        * (if 7 ≤ n then T (n - 7) else 1) = ∏ d ∈ Finset.range n, T d
  interval_cases n <;> simp [Finset.prod_range_succ] <;> ac_rfl

/-- Column `k`'s totals by device number. -/
def totals (k : Fin 1024) : ℕ → EReal := fun d => if h : d < 8 then total m ⟨d, h⟩ k else 1

theorem landed_apply (j : Fin 7) (k : Fin 1024) : landed m c (at2 (n := 7) j k) = total m (up c (rev j)) k := by
  have e : landed m c (at2 (n := 7) j k) = lrows m c (at2 (n := 7) j k) := by
    refine congrArg (lrows m c) (funext fun a => ?_)
    match a with
    | ⟨0, _⟩ => exact Fin.ext (show 0 + 1 * j.val = j.val by omega)
    | ⟨1, _⟩ => exact Fin.ext (show 0 + 1 * k.val = k.val by omega)
  rw [e]
  exact tot_prod m (up c (rev j)) k

theorem mask (c : Dev nD) (j : Fin 7) :
    IntOp.cmpi .sle (IntOp.addi (BitVec.ofNat 32 j.val) 1#32) (BitVec.ofNat 32 c.val) = if j.val + 1 ≤ c.val then 1#1 else 0#1 := by
  revert c j; decide +kernel

theorem sender (c : Dev nD) (j : Fin 7) (h : j.val + 1 ≤ c.val) : (up c (rev j)).val = c.val - (j.val + 1) := by
  revert c j; decide

/-- A landed row after the mask. -/
theorem masked (j : Fin 7) (k : Fin 1024) :
    k0_pay71 (stretch1.sl.v2 c) (landed m c) (at2 (n := 7) j k) = if j.val + 1 ≤ c.val then totals m k (c.val - (j.val + 1)) else 1 := by
  show (Scalar.select (IntOp.cmpi .sle (IntOp.addi (BitVec.ofNat 32 (0 * 7 + j.val)) 1#32) (stretch1.sl.v2 c)) (landed m c (at2 (n := 7) j k))
    (Scalar.ofBits (F := Ideal) .f32 0x3F800000#32) : EReal) = _
  rw [Nat.zero_mul, Nat.zero_add, word_eq, mask, landed_apply, one_word]
  by_cases h : j.val + 1 ≤ c.val
  · rw [if_pos h, if_pos h]
    have hd : c.val - (j.val + 1) < 8 := by have := c.isLt; change _ < 8 at this; omega
    show total m (up c (rev j)) k = totals m k (c.val - (j.val + 1))
    unfold totals
    rw [dif_pos hd]
    exact congrArg (fun d => total m d k) (Fin.ext (sender c j h))
  · rw [if_neg h, if_neg h]; rfl

/-- What the scans are scaled by first of all: the product of the earlier devices' totals. -/
theorem before_prod (k : Fin 1024) : before m c (rowIx k) = ∏ d ∈ Finset.range c.val, totals m k d := by
  have e : before m c (rowIx k) = (((((((k0_pay71 (stretch1.sl.v2 c) (landed m c) (at2 (n := 7) 0 k) : EReal)
      * k0_pay71 (stretch1.sl.v2 c) (landed m c) (at2 (n := 7) 1 k)) * k0_pay71 (stretch1.sl.v2 c) (landed m c) (at2 (n := 7) 2 k))
      * k0_pay71 (stretch1.sl.v2 c) (landed m c) (at2 (n := 7) 3 k)) * k0_pay71 (stretch1.sl.v2 c) (landed m c) (at2 (n := 7) 4 k))
      * k0_pay71 (stretch1.sl.v2 c) (landed m c) (at2 (n := 7) 5 k)) * k0_pay71 (stretch1.sl.v2 c) (landed m c) (at2 (n := 7) 6 k)) := by
    have p : ∀ (u : FVec Ideal S7x1024 .f32) (j : Fin 7) (h : S7x1024.Slices ![j.val, 0] S1x1024),
        extractStridedSlice S1x1024 ![j.val, 0] u h (rowIx k) = u (at2 (n := 7) j k) := fun u j h => by
      refine congrArg u (funext fun a => ?_)
      match a with
      | ⟨0, _⟩ => exact Fin.ext (show j.val + 0 = j.val by omega)
      | ⟨1, _⟩ => exact Fin.ext (show 0 + k.val = k.val by omega)
    generalize hu : k0_pay71 (stretch1.sl.v2 c) (landed m c) = u
    rw [← p u 0 slices_S7x1024_o0_0_S1x1024, ← p u 1 slices_S7x1024_o1_0_S1x1024, ← p u 2 slices_S7x1024_o2_0_S1x1024,
      ← p u 3 slices_S7x1024_o3_0_S1x1024, ← p u 4 slices_S7x1024_o4_0_S1x1024, ← p u 5 slices_S7x1024_o5_0_S1x1024,
      ← p u 6 slices_S7x1024_o6_0_S1x1024, ← hu]
    rfl
  rw [e]
  simp only [masked]
  exact seven (totals m k) c

/-! ## The result -/

theorem coef_prod (s : Fin 16) (k : Fin 1024) :
    coef m c s (rowIx k) = (∏ i ∈ Finset.range (256 * s.val), given m c k i) * ∏ d ∈ Finset.range c.val, totals m k d := by
  obtain ⟨n, hn⟩ := s
  cases n with
  | zero =>
    show before m c (rowIx k) = (∏ i ∈ Finset.range 0, _) * _
    rw [Finset.prod_range_zero, one_mul, before_prod]
  | succ n =>
    show (carry m c n (rowIx k) * before m c (rowIx k) : EReal) = (∏ i ∈ Finset.range (256 * (n + 1)), _) * _
    rw [carry_prod m c k n (by omega), before_prod, show 256 * n + 256 = 256 * (n + 1) by omega]

theorem outBlk_prod (s : Fin 16) (r : Fin 256) (k : Fin 1024) :
    outBlk m c s (at2 (n := 256) r k)
      = ((∏ d ∈ Finset.range c.val, totals m k d) * ∏ i ∈ Finset.range (256 * s.val + r.val + 1), given m c k i : EReal) := by
  have e : outBlk m c s (at2 (n := 256) r k) = (k0_pay10 (xsub m c s) (at2 (n := 256) r k) * coef m c s (rowIx k) : EReal) := by
    have hb : broadcastTo S256x1024 (coef m c s) broadcasts_S1x1024_S256x1024 (at2 (n := 256) r k) = coef m c s (rowIx k) := by
      refine congrArg (coef m c s) (funext fun a => ?_)
      match a with
      | ⟨0, _⟩ => rfl
      | ⟨1, _⟩ => rfl
    rw [← hb]
    rfl
  rw [e, scan_block, coef_prod, show 256 * s.val + r.val + 1 = 256 * s.val + (r.val + 1) by omega,
    Finset.prod_range_add _ (256 * s.val) (r.val + 1),
    Finset.prod_congr rfl fun i hi => sub_col m c s k (show i < 256 by have := Finset.mem_range.mp hi; omega)]
  ac_rfl

/-- Row `i` of the result: the earlier devices' totals, then the device's own rows up to `i`. -/
theorem outv_prod (i : Fin 4096) (k : Fin 1024) :
    outv m c (at2 (n := 4096) i k)
      = ((∏ d ∈ Finset.range c.val, totals m k d) * ∏ j ∈ Finset.range (i.val + 1), given m c k j : EReal) := by
  have e : outv m c (at2 (n := 4096) i k) = outBlk m c ⟨i.val / 256, by omega⟩ (at2 (n := 256) ⟨i.val % 256, Nat.mod_lt _ (by decide)⟩ k) := by
    refine congrArg (outBlk m c _) (funext fun a => ?_)
    match a with
    | ⟨0, _⟩ => rfl
    | ⟨1, _⟩ => rfl
  rw [e, outBlk_prod]
  show _ * (∏ j ∈ Finset.range (256 * (i.val / 256) + i.val % 256 + 1), given m c k j : EReal) = _
  rw [Nat.div_add_mod]

/-- In terms of the whole array: the product of all rows up to this one, those of the earlier devices included. -/
theorem outv_whole (G : (Sn 32768).Idx → EReal)
    (hG : ∀ (d : Dev nD) (i : Fin 4096) (k : Fin 1024), m ((d : Thread nD τ).loc main_arg0) (at2 (n := 4096) i k) = G (at2 ⟨4096 * d.val + i.val, by have := d.isLt; change _ < 8 at this; omega⟩ k))
    (i : Fin 4096) (k : Fin 1024) :
    outv m c (at2 (n := 4096) i k) = ∏ j ∈ Finset.range (4096 * c.val + i.val + 1), col G k j := by
  have hg : ∀ (d : Dev nD) {j : ℕ}, j < 4096 → given m d k j = col G k (4096 * d.val + j) := fun d j hj => by
    have hd : d.val < 8 := d.isLt
    unfold given
    rw [col_lt _ _ hj, col_lt G k (show 4096 * d.val + j < 32768 by omega)]
    exact hG d ⟨j, hj⟩ k
  have hp : ∀ n, n ≤ 8 → ∏ d ∈ Finset.range n, totals m k d = ∏ j ∈ Finset.range (4096 * n), col G k j := by
    intro n
    induction n with
    | zero => intro _; rfl
    | succ n ih =>
      intro hn
      rw [Finset.prod_range_succ, ih (by omega), show 4096 * (n + 1) = 4096 * n + 4096 by omega, Finset.prod_range_add]
      refine congrArg (_ * ·) ?_
      unfold totals total
      rw [dif_pos (show n < 8 by omega)]
      exact Finset.prod_congr rfl fun j hj => hg ⟨n, _⟩ (Finset.mem_range.mp hj)
  have hc : c.val < 8 := c.isLt
  rw [outv_prod, hp c.val (by omega), show 4096 * c.val + i.val + 1 = 4096 * c.val + (i.val + 1) by omega,
    Finset.prod_range_add _ (4096 * c.val) (i.val + 1),
    Finset.prod_congr rfl fun j hj => hg c (show j < 4096 by have := Finset.mem_range.mp hj; omega)]

end Cert.Cumprod
-- ==== Proof.RefRun.lean ====
/-
The reference's result over exact numbers: after `k` trips of its loop the running row is the product of the first `k` rows,
and each of the first `k` rows of the result is the product of the rows up to it.
-/
module

public import proofs.«01_k».proof.Proof.Math
public import proofs.«01_k».proof.Proof.Gen.ReferenceIdeal.Run
public import Idealize.ShloMosaic.Lib.Pointwise.ShapeOpsCore

@[expose] public section

noncomputable section

namespace Cert.Cumprod.Ref

open Cert.ReferenceIdeal Cert.ReferenceIdeal.Gen Cert.ReferenceIdeal.Value
open Idealize.ShloMosaic Idealize.ShloMosaic.TcCoe Idealize.ShloMosaic.StableHlo Idealize.SL.Sem
open Cert.Cumprod (at2 at2_eta col col_lt Sn)
open scoped BigOperators

/-- A place in the running row. -/
def at1 (k : Fin 1024) : S1024.Idx := fun a => match a with
  | ⟨0, _⟩ => k

theorem at1_eta (i : S1024.Idx) : at1 (i 0) = i := by
  funext a
  match a with
  | ⟨0, _⟩ => rfl

/-- The trip's number as the loop carries it, read back. -/
theorem start_eq {j : ℕ} (hj : j < 32768) : (BitVec.ofNat 32 j).toInt = (j : ℤ) := by
  rw [BitVec.toInt_eq_toNat_of_lt (by rw [BitVec.toNat_ofNat]; omega), BitVec.toNat_ofNat, Nat.mod_eq_of_lt (by omega)]

/-- The row that trip `j` reads. -/
theorem row_read (x : FVec Ideal S32768x1024 .f32) {j : ℕ} (hj : j < 32768) (st : Fin 2 → ℤ) (h0 : st 0 = j) (h1 : st 1 = 0) (k : Fin 1024) :
    shapeCast S1024 (Host.dynamicSlice S1x1024 x st sliceFits_S32768x1024_S1x1024) shapeCasts_S1x1024_S1024 (at1 k) = x (at2 (n := 32768) ⟨j, hj⟩ k) := by
  have e0 := Host.clampedStart_of_le (s := S32768x1024) (t := S1x1024) sliceFits_S32768x1024_S1x1024.1 st 0 j h0 (by show j + 1 ≤ 32768; omega)
  have e1 := Host.clampedStart_of_le (s := S32768x1024) (t := S1x1024) sliceFits_S32768x1024_S1x1024.1 st 1 0 h1 (by show 0 + 1024 ≤ 1024; omega)
  refine (shapeCast_dropUnit_apply ![1024] _ shapeCasts_S1x1024_S1024 (at1 k)).trans ?_
  rw [Host.dynamicSlice_apply]
  refine congrArg x (funext fun a => ?_)
  rw [Shape.Idx.norm_def]
  match a with
  | ⟨0, _⟩ =>
    refine Fin.ext ?_
    show Host.clampedStart S32768x1024 S1x1024 sliceFits_S32768x1024_S1x1024.1 st 0 + 0 = j
    omega
  | ⟨1, _⟩ =>
    refine Fin.ext ?_
    show Host.clampedStart S32768x1024 S1x1024 sliceFits_S32768x1024_S1x1024.1 st 1 + k.val = k.val
    omega

/-- Trip `j` writes row `j` and no other. -/
theorem row_write (y : FVec Ideal S32768x1024 .f32) (u : FVec Ideal S1024 .f32) {j : ℕ} (hj : j < 32768) (st : Fin 2 → ℤ) (h0 : st 0 = j) (h1 : st 1 = 0)
    (r : Fin 32768) (k : Fin 1024) :
    Host.dynamicUpdateSlice y (broadcastInDim S1x1024 ![1] bcast_S1024_S1x1024_1 u) st updateFits_S32768x1024_S1x1024 (at2 (n := 32768) r k)
      = if r.val = j then u (at1 k) else y (at2 (n := 32768) r k) := by
  have e0 := Host.clampedStart_of_le (s := S32768x1024) (t := S1x1024) updateFits_S32768x1024_S1x1024.1 st 0 j h0 (by show j + 1 ≤ 32768; omega)
  have e1 := Host.clampedStart_of_le (s := S32768x1024) (t := S1x1024) updateFits_S32768x1024_S1x1024.1 st 1 0 h1 (by show 0 + 1024 ≤ 1024; omega)
  rw [Host.dynamicUpdateSlice_apply]
  by_cases hr : r.val = j
  · rw [if_pos hr, dif_pos]
    · refine congrArg u (funext fun a => ?_)
      refine Fin.ext ?_
      match a with
      | ⟨0, _⟩ =>
        show k.val - Host.clampedStart S32768x1024 S1x1024 updateFits_S32768x1024_S1x1024.1 st 1 = k.val
        omega
    · intro a
      match a with
      | ⟨0, _⟩ =>
        show Host.clampedStart S32768x1024 S1x1024 updateFits_S32768x1024_S1x1024.1 st 0 ≤ r.val ∧ r.val < Host.clampedStart S32768x1024 S1x1024 updateFits_S32768x1024_S1x1024.1 st 0 + 1
        omega
      | ⟨1, _⟩ =>
        have hk : k.val < 1024 := k.isLt
        show Host.clampedStart S32768x1024 S1x1024 updateFits_S32768x1024_S1x1024.1 st 1 ≤ k.val ∧ k.val < Host.clampedStart S32768x1024 S1x1024 updateFits_S32768x1024_S1x1024.1 st 1 + 1024
        omega
  · rw [if_neg hr, dif_neg]
    intro h
    have h' : Host.clampedStart S32768x1024 S1x1024 updateFits_S32768x1024_S1x1024.1 st 0 ≤ r.val ∧ r.val < Host.clampedStart S32768x1024 S1x1024 updateFits_S32768x1024_S1x1024.1 st 0 + 1 := h 0
    omega

/-! ## The loop -/

section
variable (m : (ℓ : Loc nD τ sig) → Buf (Elt Ideal) ℓ) (c : Dev nD)

/-- The argument's values. -/
abbrev arg : (Sn 32768).Idx → EReal := m ((c.tc : Thread nD τ).loc main_arg0)

/-- What the loop carries before trip `j`. -/
abbrev before (j : ℕ) : Valuation τ sig (Elt Ideal) := STEP^[j] (entryContents preI m c)

theorem before_succ (j : ℕ) : before m c (j + 1) = STEP (before m c j) := Function.iterate_succ_apply' STEP j _

set_option maxRecDepth 65536 in
theorem entry_arg : entryContents preI m c (Proc.devRef .tc main_v2_0) = arg m c := by
  simp only [entryContents, afterL_cons, afterL_nil]
  after_reads_simp
  rfl

set_option maxRecDepth 65536 in
theorem entry_row : entryContents preI m c (Proc.devRef .tc main_v2_2) = fun _ => (1 : EReal) := by
  simp only [entryContents, afterL_cons, afterL_nil]
  after_reads_simp
  exact funext fun _ => Ideal.ofBits_one_f32

theorem before_arg : ∀ j, before m c j (Proc.devRef .tc main_v2_0) = arg m c
  | 0 => entry_arg m c
  | j + 1 => by rw [before_succ, STEP_main_v2_0, before_arg j]

theorem before_ctr : ∀ j, before m c j (Proc.devRef .tc main_v2_1) = fun _ => BitVec.ofNat 32 j
  | 0 => ctr_entry m c
  | j + 1 => by
    rw [before_succ, STEP_main_v2_1, step_main_v2_1, before_ctr j]
    exact funext fun _ => (BitVec.ofNat_add j 1).symm

/-- Where trip `j` reads and writes. -/
def start (j : ℕ) : Fin 2 → ℤ := fun k =>
  (((![before m c j (Proc.devRef .tc main_v2_1), constantI S_ 32 0#32] : Fin 2 → (⟨S_, .i32⟩ : BufTy).Contents (Elt Ideal))) k (Shape.Idx.first h_S_)).toInt

theorem start_row {j : ℕ} (hj : j < 32768) : start m c j 0 = j := by
  show (before m c j (Proc.devRef .tc main_v2_1) (Shape.Idx.first h_S_)).toInt = j
  rw [before_ctr]
  exact start_eq hj

theorem start_col (j : ℕ) : start m c j 1 = 0 := rfl

/-- The running row before trip `j`. -/
abbrev rowAt (j : ℕ) : S1024.Idx → EReal := before m c j (Proc.devRef .tc main_v2_2)

/-- The running row after trip `j`: the one before it times row `j`. -/
theorem row_step {j : ℕ} (hj : j < 32768) (k : Fin 1024) :
    (res_main_while0b_v5 (before m c j) (at1 k) : EReal) = rowAt m c j (at1 k) * arg m c (at2 (n := 32768) ⟨j, hj⟩ k) := by
  refine (congrArg (fun z : EReal => rowAt m c j (at1 k) * z)
    (row_read (before m c j (Proc.devRef .tc main_v2_0)) hj (start m c j) (start_row m c hj) (start_col m c j) k)).trans ?_
  rw [before_arg]

/-- The running row before trip `j` is the product of the rows before it. -/
theorem before_row (k : Fin 1024) : ∀ j, j ≤ 32768 → rowAt m c j (at1 k) = ∏ r ∈ Finset.range j, col (arg m c) k r
  | 0, _ => by
    rw [Finset.prod_range_zero]
    exact congrFun (entry_row m c) (at1 k)
  | j + 1, hj => by
    rw [rowAt, before_succ, STEP_main_v2_2, Finset.prod_range_succ, col_lt _ _ (show j < 32768 by omega), ← before_row k j (by omega)]
    exact row_step m c (by omega) k

/-- The rows written before trip `j`. -/
theorem before_out (k : Fin 1024) (r : Fin 32768) : ∀ j, j ≤ 32768 → r.val < j →
    (before m c j (Proc.devRef .tc main_v2_3) (at2 (n := 32768) r k) : EReal) = ∏ i ∈ Finset.range (r.val + 1), col (arg m c) k i
  | 0, _, h => absurd h (by omega)
  | j + 1, hj, h => by
    rw [before_succ, STEP_main_v2_3]
    refine (row_write (before m c j (Proc.devRef .tc main_v2_3)) (res_main_while0b_v5 (before m c j)) (show j < 32768 by omega) (start m c j)
      (start_row m c (by omega)) (start_col m c j) r k).trans ?_
    by_cases hr : r.val = j
    · rw [if_pos hr, hr, Finset.prod_range_succ, col_lt _ _ (show j < 32768 by omega), ← before_row m c k j (by omega)]
      exact row_step m c (by omega) k
    · rw [if_neg hr]
      exact before_out k r j (by omega) (by omega)

/-- The result's values are the last rows', place by place. -/
theorem out_of (V : Valuation τ sig (Elt Ideal)) (f : Fin 32768 → Fin 1024 → EReal)
    (h : ∀ r k, (V (Proc.devRef .tc main_v2_3) (at2 (n := 32768) r k) : EReal) = f r k) :
    out_main_v3 V = fun i => f (i 0) (i 1) := by
  funext i
  exact (congrArg (fun z => (V (Proc.devRef .tc main_v2_3) : (Sn 32768).Idx → EReal) z) (at2_eta (n := 32768) i)).symm.trans (h (i 0) (i 1))

/-- The reference's result: each row is the product of the rows up to it. -/
theorem result (j : ℕ) (hj : j = 32768) : out_main_v3 (before m c j) = fun i => (∏ r ∈ Finset.range ((i 0).val + 1), col (arg m c) (i 1) r : EReal) :=
  out_of (before m c j) (fun r k => ∏ i ∈ Finset.range (r.val + 1), col (arg m c) k i)
    fun r k => before_out m c k r j hj.le (hj ▸ r.isLt)

end

end Cert.Cumprod.Ref
-- ==== Proof.Equal.lean ====
/-
The kernel and the reference end with the same values over exact numbers: device `c` holds rows `4096 * c` on, and each row of
either result is the product of the rows up to it.
-/
module

public import proofs.«01_k».proof.Proof.Launch
public import proofs.«01_k».proof.Proof.RefRun
public import Idealize.ShloMosaic.Lib.Layout

@[expose] public section

noncomputable section

namespace Cert.Cumprod

open Idealize.ShloMosaic Idealize.ShloMosaic.TcCoe Idealize.SL.Sem Cert.KernelIdeal
open scoped BigOperators

/-- The product of a column's rows, at every place. -/
def prods (G : (Sn 32768).Idx → EReal) : (Sn 32768).Idx → EReal := fun i => ∏ r ∈ Finset.range ((i 0).val + 1), col G (i 1) r

/-- Where device `c`'s place lies in the whole. -/
theorem block_at (v : (Sn 32768).Idx → EReal) (c : Dev nD) (i : Fin 4096) (k : Fin 1024) (h : 4096 * c.val + i.val < 32768) :
    (Layout.block ⟨2, ![4096, 1024]⟩ ⟨2, ![32768, 1024]⟩ 0 8 c v : (Sn 4096).Idx → EReal) (at2 (n := 4096) i k) = v (at2 ⟨4096 * c.val + i.val, h⟩ k) := by
  rw [Layout.block_apply]
  refine congrArg v (funext fun a => ?_)
  match a with
  | ⟨0, _⟩ => exact Fin.ext (show c.val * 4096 + i.val = 4096 * c.val + i.val by omega)
  | ⟨1, _⟩ => rfl

/-- Each device's result is its part of the whole's. -/
theorem outv_block (m : (ℓ : Loc nD τ sig) → Buf (Elt Ideal) ℓ) (G : (Sn 32768).Idx → EReal)
    (hG : ∀ c : Dev nD, m ((c.tc : Thread nD τ).loc main_arg0) = Layout.block ⟨2, ![4096, 1024]⟩ ⟨2, ![32768, 1024]⟩ 0 8 c G) (c : Dev nD) :
    outv m c = Layout.block ⟨2, ![4096, 1024]⟩ ⟨2, ![32768, 1024]⟩ 0 8 c (prods G) := by
  have hc : c.val < 8 := c.isLt
  have h : ∀ (i : Fin 4096) (k : Fin 1024), (outv m c : (Sn 4096).Idx → EReal) (at2 i k)
      = (Layout.block ⟨2, ![4096, 1024]⟩ ⟨2, ![32768, 1024]⟩ 0 8 c (prods G) : (Sn 4096).Idx → EReal) (at2 i k) := fun i k =>
    (outv_whole m c G (fun d j k => (congrFun (hG d) (at2 (n := 4096) j k)).trans (block_at G d j k _)) i k).trans
      (block_at (prods G) c i k (by omega)).symm
  exact funext fun i => ((congrArg (outv m c : (Sn 4096).Idx → EReal) (at2_eta (n := 4096) i)).symm.trans (h (i 0) (i 1))).trans
    (congrArg (Layout.block ⟨2, ![4096, 1024]⟩ ⟨2, ![32768, 1024]⟩ 0 8 c (prods G) : (Sn 4096).Idx → EReal) (at2_eta (n := 4096) i))

end Cert.Cumprod
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Launch
public import proofs.«01_k».proof.Proof.Equal
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The idealized kernel keeps its argument and leaves every counter at zero. -/
theorem frame_kernelIdeal : Cert.quiescent_KernelIdeal := fun m ρ _ =>
  (θ_run Cert.KernelIdeal.defs _ _).mono (fun _ h => ⟨fun c => (h.1 c).1, h.2⟩) (Cert.Cumprod.run_main m ρ)

/-- The kernel itself is the same program at the bit-exact floats, so the run stated over any floats serves it. -/
theorem frame_kernel : Cert.quiescent_Kernel := fun m ρ _ =>
  (θ_run Cert.KernelIdeal.defs _ _).mono (fun _ h => ⟨fun c => (h.1 c).1, h.2⟩)
    (Cert.Cumprod.run_main (F := Bits) m ρ)

/-- The reference keeps its argument; it has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run m ρ)

/-- Over exact numbers the idealized kernel's devices end with their parts of what the reference ends with. -/
theorem equal : Cert.algebraic_KernelIdeal_ReferenceIdeal := fun m g m' g' _ hm =>
  ⟨Cert.Cumprod.prods (Cert.Cumprod.Ref.arg m' 0),
    (θ_run Cert.KernelIdeal.defs _ _).mono (fun _ h c => ⟨(h.1 c).2.trans (Cert.Cumprod.outv_block m _ hm c), (h.1 c).1⟩)
      (Cert.Cumprod.run_main m g),
    (θ_run Cert.ReferenceIdeal.defs _ _).mono (fun _ h => ⟨(h 0).1.trans (Cert.Cumprod.Ref.result m' 0 32768 rfl), (h 0).2⟩)
      (Cert.ReferenceIdeal.Value.run m' g')⟩

theorem claim : Cert.Claim := ⟨Cert.Kernel.Gen.facts, Cert.KernelIdeal.Gen.facts, Cert.ReferenceIdeal.Gen.facts,
  frame_kernel, frame_kernelIdeal, frame_reference, trivial, equal⟩

end Cert.Proof

end
